-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x7168 : Shape := ⟨3, ![2, 128, 7168]⟩
abbrev S_ : Shape := ⟨0, ![]⟩
abbrev S7168x18432 : Shape := ⟨2, ![7168, 18432]⟩
abbrev S18432 : Shape := ⟨1, ![18432]⟩

class Facts : Prop where
  bcast_S_S18432 : S_.BroadcastsInDim S18432 (![] : Fin 0 → Fin S18432.rank)

variable [Facts]

def fn {F : FTy → Type} [FloatOps F] (main_arg0 : IVec S2x128x7168 8) (main_arg1 : IVec S_ 32) (main_arg2 : IVec S7168x18432 8) (main_arg3 : IVec S18432 32) (main_arg4 : IVec S18432 32) (main_arg5 : IVec S18432 32) (main_arg6 : IVec S_ 32) : IVec S_ 1 × IVec S18432 1 × IVec S18432 1 :=
  let main_c : IVec S_ 32 := constantI S_ 32 4294934655#32
  let main_v0 : IVec S_ 1 := cmpi .sge main_arg1 main_c
  let main_c_0 : IVec S_ 32 := constantI S_ 32 32639#32
  let main_v1 : IVec S_ 1 := cmpi .sle main_arg1 main_c_0
  let main_v2 : IVec S_ 1 := andi main_v0 main_v1
  let main_c_1 : IVec S_ 32 := constantI S_ 32 0#32
  let main_v3 : IVec S18432 32 := broadcastInDim S18432 ![] bcast_S_S18432 main_c_1
  let main_v4 : IVec S18432 1 := cmpi .sge main_arg4 main_v3
  let main_c_2 : IVec S_ 32 := constantI S_ 32 1#32
  let main_v5 : IVec S18432 32 := broadcastInDim S18432 ![] bcast_S_S18432 main_c_2
  let main_v6 : IVec S18432 1 := cmpi .sge main_arg5 main_v5
  let main_c_3 : IVec S_ 32 := constantI S_ 32 31#32
  let main_v7 : IVec S18432 32 := broadcastInDim S18432 ![] bcast_S_S18432 main_c_3
  let main_v8 : IVec S18432 1 := cmpi .sle main_arg5 main_v7
  let main_v9 : IVec S18432 1 := andi main_v6 main_v8
  (main_v2, main_v4, main_v9)
-- ==== Kernel.lean ====
abbrev S2x128x7168 : Shape := ⟨3, ![2, 128, 7168]⟩
abbrev S_ : Shape := ⟨0, ![]⟩
abbrev S7168x18432 : Shape := ⟨2, ![7168, 18432]⟩
abbrev S18432 : Shape := ⟨1, ![18432]⟩
abbrev S1 : Shape := ⟨1, ![1]⟩
abbrev S256x7168 : Shape := ⟨2, ![256, 7168]⟩
abbrev S1x18432 : Shape := ⟨2, ![1, 18432]⟩
abbrev S256x18432 : Shape := ⟨2, ![256, 18432]⟩
abbrev S7168x1024 : Shape := ⟨2, ![7168, 1024]⟩
abbrev S1x1024 : Shape := ⟨2, ![1, 1024]⟩
abbrev S256x1024 : Shape := ⟨2, ![256, 1024]⟩
abbrev S256x512 : Shape := ⟨2, ![256, 512]⟩
abbrev S512x1024 : Shape := ⟨2, ![512, 1024]⟩
abbrev S2x128x18432 : Shape := ⟨3, ![2, 128, 18432]⟩

abbrev nBuf : Space → Nat
  | .hbm => 15
  | .vmem => 12
  | .smem => 2
  | _ => 0

abbrev bufTy : (tb : Table) → Fin (tcTables nBuf tb) → BufTy
  | .hbm, ⟨0, _⟩ => ⟨S2x128x7168, .i8⟩
  | .hbm, ⟨1, _⟩ => ⟨S_, .i32⟩
  | .hbm, ⟨2, _⟩ => ⟨S7168x18432, .i8⟩
  | .hbm, ⟨3, _⟩ => ⟨S18432, .i32⟩
  | .hbm, ⟨4, _⟩ => ⟨S18432, .i32⟩
  | .hbm, ⟨5, _⟩ => ⟨S18432, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S256x7168, .i8⟩
  | .hbm, ⟨10, _⟩ => ⟨S1x18432, .i32⟩
  | .hbm, ⟨11, _⟩ => ⟨S1x18432, .i32⟩
  | .hbm, ⟨12, _⟩ => ⟨S1x18432, .i32⟩
  | .hbm, ⟨13, _⟩ => ⟨S256x18432, .i8⟩
  | .hbm, ⟨14, _⟩ => ⟨S2x128x18432, .i8⟩
  | .local _ .vmem, ⟨0, _⟩ => ⟨S256x7168, .i8⟩
  | .local _ .vmem, ⟨1, _⟩ => ⟨S7168x1024, .i8⟩
  | .local _ .vmem, ⟨2, _⟩ => ⟨S7168x1024, .i8⟩
  | .local _ .vmem, ⟨3, _⟩ => ⟨S1x1024, .i32⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1024, .i32⟩
  | .local _ .vmem, ⟨9, _⟩ => ⟨S256x1024, .i8⟩
  | .local _ .vmem, ⟨10, _⟩ => ⟨S256x1024, .i8⟩
  | .local _ .vmem, ⟨11, _⟩ => ⟨S256x7168, .bf16⟩
  | .local _ .smem, ⟨0, _⟩ => ⟨S1, .i32⟩
  | .local _ .smem, ⟨1, _⟩ => ⟨S1, .i32⟩
  | _, _ => ⟨S2x128x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x128x7168 : Shape := ⟨3, ![2, 128, 7168]⟩
abbrev S_ : Shape := ⟨0, ![]⟩
abbrev S7168x18432 : Shape := ⟨2, ![7168, 18432]⟩
abbrev S18432 : Shape := ⟨1, ![18432]⟩
abbrev S2x128x7168x1 : Shape := ⟨4, ![2, 128, 7168, 1]⟩
abbrev S1x1x7168x18432 : Shape := ⟨4, ![1, 1, 7168, 18432]⟩
abbrev S2x128x7168x18432 : Shape := ⟨4, ![2, 128, 7168, 18432]⟩
abbrev S2x128x18432 : Shape := ⟨3, ![2, 128, 18432]⟩
abbrev S1x1x18432 : Shape := ⟨3, ![1, 1, 18432]⟩

abbrev nBuf : Space → Nat
  | .hbm => 115
  | .vmem => 0
  | .smem => 0
  | _ => 0

abbrev bufTy : (tb : Table) → Fin (tcTables nBuf tb) → BufTy
  | .hbm, ⟨0, _⟩ => ⟨S2x128x7168, .i8⟩
  | .hbm, ⟨1, _⟩ => ⟨S_, .i32⟩
  | .hbm, ⟨2, _⟩ => ⟨S7168x18432, .i8⟩
  | .hbm, ⟨3, _⟩ => ⟨S18432, .i32⟩
  | .hbm, ⟨4, _⟩ => ⟨S18432, .i32⟩
  | .hbm, ⟨5, _⟩ => ⟨S18432, .i32⟩
  | .hbm, ⟨6, _⟩ => ⟨S_, .i32⟩
  | .hbm, ⟨7, _⟩ => ⟨S2x128x7168, .i32⟩
  | .hbm, ⟨8, _⟩ => ⟨S2x128x7168x1, .i32⟩
  | .hbm, ⟨9, _⟩ => ⟨S7168x18432, .i32⟩
  | .hbm, ⟨10, _⟩ => ⟨S1x1x7168x18432, .i32⟩
  | .hbm, ⟨11, _⟩ => ⟨S2x128x7168x18432, .i32⟩
  | .hbm, ⟨12, _⟩ => ⟨S2x128x7168x18432, .i32⟩
  | .hbm, ⟨13, _⟩ => ⟨S2x128x7168x18432, .i32⟩
  | .hbm, ⟨14, _⟩ => ⟨S_, .i32⟩
  | .hbm, ⟨15, _⟩ => ⟨S2x128x18432, .i32⟩
  | .hbm, ⟨16, _⟩ => ⟨S7168x18432, .i32⟩
  | .hbm, ⟨17, _⟩ => ⟨S_, .i32⟩
  | .hbm, ⟨18, _⟩ => ⟨S18432, .i32⟩
  | .hbm, ⟨19, _⟩ => ⟨S18432, .i32⟩
  | .hbm, ⟨20, _⟩ => ⟨S18432, .i32⟩
  | .hbm, ⟨21, _⟩ => ⟨S1x1x18432, .i32⟩
  | .hbm, ⟨22, _⟩ => ⟨S2x128x18432, .i32⟩
  | .hbm, ⟨23, _⟩ => ⟨S2x128x18432, .i32⟩
  | .hbm, ⟨24, _⟩ => ⟨S1x1x18432, .i32⟩
  | .hbm, ⟨25, _⟩ => ⟨S2x128x18432, .i32⟩
  | .hbm, ⟨26, _⟩ => ⟨S2x128x18432, .i32⟩
  | .hbm, ⟨27, _⟩ => ⟨S_, .i32⟩
  | .hbm, ⟨28, _⟩ => ⟨S2x128x18432, .i32⟩
  | .hbm, ⟨29, _⟩ => ⟨S2x128x18432, .i1⟩
  | .hbm, ⟨30, _⟩ => ⟨S2x128x18432, .i32⟩
  | .hbm, ⟨31, _⟩ => ⟨S2x128x18432, .i32⟩
  | .hbm, ⟨32, _⟩ => ⟨S2x128x18432, .i32⟩
  | .hbm, ⟨33, _⟩ => ⟨S2x128x18432, .i32⟩
  | .hbm, ⟨34, _⟩ => ⟨S_, .i32⟩
  | .hbm, ⟨35, _⟩ => ⟨S2x128x18432, .i32⟩
  | .hbm, ⟨36, _⟩ => ⟨S2x128x18432, .i32⟩
  | .hbm, ⟨37, _⟩ => ⟨S_, .i32⟩
  | .hbm, ⟨38, _⟩ => ⟨S2x128x18432, .i32⟩
  | .hbm, ⟨39, _⟩ => ⟨S2x128x18432, .i32⟩
  | .hbm, ⟨40, _⟩ => ⟨S_, .i32⟩
  | .hbm, ⟨41, _⟩ => ⟨S2x128x18432, .i32⟩
  | .hbm, ⟨42, _⟩ => ⟨S2x128x18432, .i32⟩
  | .hbm, ⟨43, _⟩ => ⟨S_, .i32⟩
  | .hbm, ⟨44, _⟩ => ⟨S2x128x18432, .i32⟩
  | .hbm, ⟨45, _⟩ => ⟨S2x128x18432, .i32⟩
  | .hbm, ⟨46, _⟩ => ⟨S2x128x18432, .i32⟩
  | .hbm, ⟨47, _⟩ => ⟨S2x128x18432, .i32⟩
  | .hbm, ⟨48, _⟩ => ⟨S2x128x18432, .i32⟩
  | .hbm, ⟨49, _⟩ => ⟨S2x128x18432, .i32⟩
  | .hbm, ⟨50, _⟩ => ⟨S2x128x18432, .i32⟩
  | .hbm, ⟨51, _⟩ => ⟨S_, .i32⟩
  | .hbm, ⟨52, _⟩ => ⟨S2x128x18432, .i32⟩
  | .hbm, ⟨53, _⟩ => ⟨S2x128x18432, .i32⟩
  | .hbm, ⟨54, _⟩ => ⟨S2x128x18432, .i32⟩
  | .hbm, ⟨55, _⟩ => ⟨S2x128x18432, .i1⟩
  | .hbm, ⟨56, _⟩ => ⟨S2x128x18432, .i32⟩
  | .hbm, ⟨57, _⟩ => ⟨S_, .i32⟩
  | .hbm, ⟨58, _⟩ => ⟨S2x128x18432, .i32⟩
  | .hbm, ⟨59, _⟩ => ⟨S2x128x18432, .i32⟩
  | .hbm, ⟨60, _⟩ => ⟨S2x128x18432, .i32⟩
  | .hbm, ⟨61, _⟩ => ⟨S2x128x18432, .i32⟩
  | .hbm, ⟨62, _⟩ => ⟨S2x128x18432, .i32⟩
  | .hbm, ⟨63, _⟩ => ⟨S_, .i32⟩
  | .hbm, ⟨64, _⟩ => ⟨S2x128x18432, .i32⟩
  | .hbm, ⟨65, _⟩ => ⟨S2x128x18432, .i32⟩
  | .hbm, ⟨66, _⟩ => ⟨S2x128x18432, .i32⟩
  | .hbm, ⟨67, _⟩ => ⟨S2x128x18432, .i1⟩
  | .hbm, ⟨68, _⟩ => ⟨S2x128x18432, .i32⟩
  | .hbm, ⟨69, _⟩ => ⟨S2x128x18432, .i32⟩
  | .hbm, ⟨70, _⟩ => ⟨S_, .i32⟩
  | .hbm, ⟨71, _⟩ => ⟨S2x128x18432, .i32⟩
  | .hbm, ⟨72, _⟩ => ⟨S2x128x18432, .i32⟩
  | .hbm, ⟨73, _⟩ => ⟨S_, .i32⟩
  | .hbm, ⟨74, _⟩ => ⟨S2x128x18432, .i32⟩
  | .hbm, ⟨75, _⟩ => ⟨S2x128x18432, .i32⟩
  | .hbm, ⟨76, _⟩ => ⟨S2x128x18432, .i32⟩
  | .hbm, ⟨77, _⟩ => ⟨S2x128x18432, .i32⟩
  | .hbm, ⟨78, _⟩ => ⟨S2x128x18432, .i32⟩
  | .hbm, ⟨79, _⟩ => ⟨S2x128x18432, .i32⟩
  | .hbm, ⟨80, _⟩ => ⟨S_, .i32⟩
  | .hbm, ⟨81, _⟩ => ⟨S18432, .i32⟩
  | .hbm, ⟨82, _⟩ => ⟨S18432, .i32⟩
  | .hbm, ⟨83, _⟩ => ⟨S_, .i32⟩
  | .hbm, ⟨84, _⟩ => ⟨S18432, .i32⟩
  | .hbm, ⟨85, _⟩ => ⟨S18432, .i32⟩
  | .hbm, ⟨86, _⟩ => ⟨S1x1x18432, .i32⟩
  | .hbm, ⟨87, _⟩ => ⟨S2x128x18432, .i32⟩
  | .hbm, ⟨88, _⟩ => ⟨S2x128x18432, .i32⟩
  | .hbm, ⟨89, _⟩ => ⟨S_, .i32⟩
  | .hbm, ⟨90, _⟩ => ⟨S18432, .i32⟩
  | .hbm, ⟨91, _⟩ => ⟨S18432, .i32⟩
  | .hbm, ⟨92, _⟩ => ⟨S_, .i32⟩
  | .hbm, ⟨93, _⟩ => ⟨S2x128x18432, .i32⟩
  | .hbm, ⟨94, _⟩ => ⟨S2x128x18432, .i1⟩
  | .hbm, ⟨95, _⟩ => ⟨S2x128x18432, .i32⟩
  | .hbm, ⟨96, _⟩ => ⟨S1x1x18432, .i32⟩
  | .hbm, ⟨97, _⟩ => ⟨S2x128x18432, .i32⟩
  | .hbm, ⟨98, _⟩ => ⟨S2x128x18432, .i32⟩
  | .hbm, ⟨99, _⟩ => ⟨S2x128x18432, .i32⟩
  | .hbm, ⟨100, _⟩ => ⟨S2x128x18432, .i32⟩
  | .hbm, ⟨101, _⟩ => ⟨S2x128x18432, .i1⟩
  | .hbm, ⟨102, _⟩ => ⟨S2x128x18432, .i32⟩
  | .hbm, ⟨103, _⟩ => ⟨S2x128x18432, .i32⟩
  | .hbm, ⟨104, _⟩ => ⟨S2x128x18432, .i32⟩
  | .hbm, ⟨105, _⟩ => ⟨S2x128x18432, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S2x128x18432, .i32⟩
  | .hbm, ⟨110, _⟩ => ⟨S2x128x18432, .i32⟩
  | .hbm, ⟨111, _⟩ => ⟨S_, .i32⟩
  | .hbm, ⟨112, _⟩ => ⟨S2x128x18432, .i32⟩
  | .hbm, ⟨113, _⟩ => ⟨S2x128x18432, .i32⟩
  | .hbm, ⟨114, _⟩ => ⟨S2x128x18432, .i8⟩
  | _, _ => ⟨S2x128x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_11 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_c_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_15 : Ref sig .tc := ⟨.hbm, 106, rfl⟩
abbrev main_c_16 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]
-- ==== Proof.Stages.lean ====
/- The reference program one operation at a time: `val_<buffer>` is the value an operation writes, as a function of the
   arguments it depends on, and `val_<buffer>_apply` reads it at an index from its operands at an index.
   The text follows the generated reading of the reference; the conversions that change nothing (int32 to uint32 and
   back) are read with their operand held opaque, so that checking them never unfolds the operand. -/
module

public import proofs.«01_k».proof.Proof.Gen.ReferenceIdeal.Run
public import Idealize.ShloMosaic.Lib.Pipeline.Value

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.convert %arg0 : (tensor<2x128x7168xi8>) -> tensor<2x128x7168xi32>
def val_main_v0 (x0 : (⟨S2x128x7168, .i8⟩ : BufTy).Contents (Elt F)) : (⟨S2x128x7168, .i32⟩ : BufTy).Contents (Elt F) :=
  extsi 32 (x0) natLt_8_32
theorem val_main_v0_apply (x0 : (⟨S2x128x7168, .i8⟩ : BufTy).Contents (Elt F)) (i : S2x128x7168.Idx) :
    val_main_v0 (F := F) x0 i = (x0 i).signExtend 32 := rfl

-- %1 = stablehlo.broadcast_in_dim %0, dims = [0, 1, 2] : (tensor<2x128x7168xi32>) -> tensor<2x128x7168x1xi32>
def val_main_v1 (x0 : (⟨S2x128x7168, .i8⟩ : BufTy).Contents (Elt F)) : (⟨S2x128x7168x1, .i32⟩ : BufTy).Contents (Elt F) :=
  broadcastInDim S2x128x7168x1 ![0, 1, 2] bcast_S2x128x7168_S2x128x7168x1_0_1_2 (val_main_v0 (F := F) x0)
abbrev idx_main_v1 (i : S2x128x7168x1.Idx) : S2x128x7168.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v1_apply (x0 : (⟨S2x128x7168, .i8⟩ : BufTy).Contents (Elt F)) (i : S2x128x7168x1.Idx) :
    val_main_v1 (F := F) x0 i = val_main_v0 (F := F) x0 (idx_main_v1 i) := by
  unfold val_main_v1
  generalize val_main_v0 (F := F) x0 = y
  exact broadcastInDim_apply _ bcast_S2x128x7168_S2x128x7168x1_0_1_2 y i (idx_main_v1 i) (fun a => match a with
    | ⟨0, _⟩ => by show (i 0).val = if (2 : Nat) = 1 then 0 else (i 0).val; rw [if_neg (by decide)]
    | ⟨1, _⟩ => by show (i 1).val = if (128 : Nat) = 1 then 0 else (i 1).val; rw [if_neg (by decide)]
    | ⟨2, _⟩ => by show (i 2).val = if (7168 : Nat) = 1 then 0 else (i 2).val; rw [if_neg (by decide)])

-- %2 = stablehlo.convert %arg2 : (tensor<7168x18432xi8>) -> tensor<7168x18432xi32>
def val_main_v2 (x2 : (⟨S7168x18432, .i8⟩ : BufTy).Contents (Elt F)) : (⟨S7168x18432, .i32⟩ : BufTy).Contents (Elt F) :=
  extsi 32 (x2) natLt_8_32
theorem val_main_v2_apply (x2 : (⟨S7168x18432, .i8⟩ : BufTy).Contents (Elt F)) (i : S7168x18432.Idx) :
    val_main_v2 (F := F) x2 i = (x2 i).signExtend 32 := rfl

-- %3 = stablehlo.broadcast_in_dim %2, dims = [2, 3] : (tensor<7168x18432xi32>) -> tensor<1x1x7168x18432xi32>
def val_main_v3 (x2 : (⟨S7168x18432, .i8⟩ : BufTy).Contents (Elt F)) : (⟨S1x1x7168x18432, .i32⟩ : BufTy).Contents (Elt F) :=
  broadcastInDim S1x1x7168x18432 ![2, 3] bcast_S7168x18432_S1x1x7168x18432_2_3 (val_main_v2 (F := F) x2)
abbrev idx_main_v3 (i : S1x1x7168x18432.Idx) : S7168x18432.Idx := fun a => match a with
  | ⟨0, _⟩ => ⟨(i 2).val, (i 2).isLt⟩
  | ⟨1, _⟩ => ⟨(i 3).val, (i 3).isLt⟩
theorem val_main_v3_apply (x2 : (⟨S7168x18432, .i8⟩ : BufTy).Contents (Elt F)) (i : S1x1x7168x18432.Idx) :
    val_main_v3 (F := F) x2 i = val_main_v2 (F := F) x2 (idx_main_v3 i) := by
  unfold val_main_v3
  generalize val_main_v2 (F := F) x2 = y
  exact broadcastInDim_apply _ bcast_S7168x18432_S1x1x7168x18432_2_3 y i (idx_main_v3 i) (fun a => match a with
    | ⟨0, _⟩ => by show (i 2).val = if (7168 : Nat) = 1 then 0 else (i 2).val; rw [if_neg (by decide)]
    | ⟨1, _⟩ => by show (i 3).val = if (18432 : Nat) = 1 then 0 else (i 3).val; rw [if_neg (by decide)])

-- %4 = stablehlo.broadcast_in_dim %1, dims = [0, 1, 2, 3] : (tensor<2x128x7168x1xi32>) -> tensor<2x128x7168x18432xi32>
def val_main_v4 (x0 : (⟨S2x128x7168, .i8⟩ : BufTy).Contents (Elt F)) : (⟨S2x128x7168x18432, .i32⟩ : BufTy).Contents (Elt F) :=
  broadcastInDim S2x128x7168x18432 ![0, 1, 2, 3] bcast_S2x128x7168x1_S2x128x7168x18432_0_1_2_3 (val_main_v1 (F := F) x0)
abbrev idx_main_v4 (i : S2x128x7168x18432.Idx) : S2x128x7168x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v4_apply (x0 : (⟨S2x128x7168, .i8⟩ : BufTy).Contents (Elt F)) (i : S2x128x7168x18432.Idx) :
    val_main_v4 (F := F) x0 i = val_main_v1 (F := F) x0 (idx_main_v4 i) := by
  unfold val_main_v4
  generalize val_main_v1 (F := F) x0 = y
  exact broadcastInDim_apply _ bcast_S2x128x7168x1_S2x128x7168x18432_0_1_2_3 y i (idx_main_v4 i) (fun a => match a with
    | ⟨0, _⟩ => by show (i 0).val = if (2 : Nat) = 1 then 0 else (i 0).val; rw [if_neg (by decide)]
    | ⟨1, _⟩ => by show (i 1).val = if (128 : Nat) = 1 then 0 else (i 1).val; rw [if_neg (by decide)]
    | ⟨2, _⟩ => by show (i 2).val = if (7168 : Nat) = 1 then 0 else (i 2).val; rw [if_neg (by decide)]
    | ⟨3, _⟩ => by show 0 = if (1 : Nat) = 1 then 0 else (i 3).val; rw [if_pos rfl])

-- %5 = stablehlo.broadcast_in_dim %3, dims = [0, 1, 2, 3] : (tensor<1x1x7168x18432xi32>) -> tensor<2x128x7168x18432xi32>
def val_main_v5 (x2 : (⟨S7168x18432, .i8⟩ : BufTy).Contents (Elt F)) : (⟨S2x128x7168x18432, .i32⟩ : BufTy).Contents (Elt F) :=
  broadcastInDim S2x128x7168x18432 ![0, 1, 2, 3] bcast_S1x1x7168x18432_S2x128x7168x18432_0_1_2_3 (val_main_v3 (F := F) x2)
abbrev idx_main_v5 (i : S2x128x7168x18432.Idx) : S1x1x7168x18432.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨(i 3).val, (i 3).isLt⟩
theorem val_main_v5_apply (x2 : (⟨S7168x18432, .i8⟩ : BufTy).Contents (Elt F)) (i : S2x128x7168x18432.Idx) :
    val_main_v5 (F := F) x2 i = val_main_v3 (F := F) x2 (idx_main_v5 i) := by
  unfold val_main_v5
  generalize val_main_v3 (F := F) x2 = y
  exact broadcastInDim_apply _ bcast_S1x1x7168x18432_S2x128x7168x18432_0_1_2_3 y i (idx_main_v5 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (7168 : Nat) = 1 then 0 else (i 2).val; rw [if_neg (by decide)]
    | ⟨3, _⟩ => by show (i 3).val = if (18432 : Nat) = 1 then 0 else (i 3).val; rw [if_neg (by decide)])

-- %6 = stablehlo.multiply %4, %5 : tensor<2x128x7168x18432xi32>
def val_main_v6 (x0 : (⟨S2x128x7168, .i8⟩ : BufTy).Contents (Elt F)) (x2 : (⟨S7168x18432, .i8⟩ : BufTy).Contents (Elt F)) : (⟨S2x128x7168x18432, .i32⟩ : BufTy).Contents (Elt F) :=
  muli (val_main_v4 (F := F) x0) (val_main_v5 (F := F) x2)
theorem val_main_v6_apply (x0 : (⟨S2x128x7168, .i8⟩ : BufTy).Contents (Elt F)) (x2 : (⟨S7168x18432, .i8⟩ : BufTy).Contents (Elt F)) (i : S2x128x7168x18432.Idx) :
    val_main_v6 (F := F) x0 x2 i = IntOp.muli (val_main_v4 (F := F) x0 i) (val_main_v5 (F := F) x2 i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %7 = stablehlo.reduce(%6 init: %c) applies stablehlo.add across dimensions = [2] : (tensor<2x128x7168x18432xi32>, tensor<i32>) -> tensor<2x128x18432xi32> {
def val_main_v7 (x0 : (⟨S2x128x7168, .i8⟩ : BufTy).Contents (Elt F)) (x2 : (⟨S7168x18432, .i8⟩ : BufTy).Contents (Elt F)) : (⟨S2x128x18432, .i32⟩ : BufTy).Contents (Elt F) :=
  Host.reduce IntOp.addi (val_main_v6 (F := F) x0 x2) (val_main_c (F := F)) reducesTo_S2x128x7168x18432_S2x128x18432_d2 h_S_

-- %8 = stablehlo.convert %arg2 : (tensor<7168x18432xi8>) -> tensor<7168x18432xi32>
def val_main_v8 (x2 : (⟨S7168x18432, .i8⟩ : BufTy).Contents (Elt F)) : (⟨S7168x18432, .i32⟩ : BufTy).Contents (Elt F) :=
  extsi 32 (x2) natLt_8_32
theorem val_main_v8_apply (x2 : (⟨S7168x18432, .i8⟩ : BufTy).Contents (Elt F)) (i : S7168x18432.Idx) :
    val_main_v8 (F := F) x2 i = (x2 i).signExtend 32 := rfl

-- %c_0 = stablehlo.constant dense<0> : tensor<i32>
def val_main_c_0 : (⟨S_, .i32⟩ : BufTy).Contents (Elt F) :=
  constantI S_ 32 0#32
theorem val_main_c_0_apply (i : S_.Idx) :
    val_main_c_0 (F := F) i = 0#32 := rfl

-- %9 = stablehlo.reduce(%8 init: %c_0) applies stablehlo.add across dimensions = [0] : (tensor<7168x18432xi32>, tensor<i32>) -> tensor<18432xi32> {
def val_main_v9 (x2 : (⟨S7168x18432, .i8⟩ : BufTy).Contents (Elt F)) : (⟨S18432, .i32⟩ : BufTy).Contents (Elt F) :=
  Host.reduce IntOp.addi (val_main_v8 (F := F) x2) (val_main_c_0 (F := F)) reducesTo_S7168x18432_S18432_d0 h_S_

-- %10 = stablehlo.broadcast_in_dim %arg1, dims = [] : (tensor<i32>) -> tensor<18432xi32>
def val_main_v10 (x1 : (⟨S_, .i32⟩ : BufTy).Contents (Elt F)) : (⟨S18432, .i32⟩ : BufTy).Contents (Elt F) :=
  broadcastInDim S18432 ![] bcast_S_S18432 (x1)
abbrev idx_main_v10 (i : S18432.Idx) : S_.Idx := fun a => a.elim0
theorem val_main_v10_apply (x1 : (⟨S_, .i32⟩ : BufTy).Contents (Elt F)) (i : S18432.Idx) :
    val_main_v10 (F := F) x1 i = x1 (idx_main_v10 i) := by
  unfold val_main_v10
  exact broadcastInDim_apply _ bcast_S_S18432 x1 i (idx_main_v10 i) (fun a => a.elim0)

-- %11 = stablehlo.multiply %10, %9 : tensor<18432xi32>
def val_main_v11 (x1 : (⟨S_, .i32⟩ : BufTy).Contents (Elt F)) (x2 : (⟨S7168x18432, .i8⟩ : BufTy).Contents (Elt F)) : (⟨S18432, .i32⟩ : BufTy).Contents (Elt F) :=
  muli (val_main_v10 (F := F) x1) (val_main_v9 (F := F) x2)
theorem val_main_v11_apply (x1 : (⟨S_, .i32⟩ : BufTy).Contents (Elt F)) (x2 : (⟨S7168x18432, .i8⟩ : BufTy).Contents (Elt F)) (i : S18432.Idx) :
    val_main_v11 (F := F) x1 x2 i = IntOp.muli (val_main_v10 (F := F) x1 i) (val_main_v9 (F := F) x2 i) := rfl

-- %12 = stablehlo.broadcast_in_dim %11, dims = [2] : (tensor<18432xi32>) -> tensor<1x1x18432xi32>
def val_main_v12 (x1 : (⟨S_, .i32⟩ : BufTy).Contents (Elt F)) (x2 : (⟨S7168x18432, .i8⟩ : BufTy).Contents (Elt F)) : (⟨S1x1x18432, .i32⟩ : BufTy).Contents (Elt F) :=
  broadcastInDim S1x1x18432 ![2] bcast_S18432_S1x1x18432_2 (val_main_v11 (F := F) x1 x2)
abbrev idx_main_v12 (i : S1x1x18432.Idx) : S18432.Idx := fun a => match a with
  | ⟨0, _⟩ => ⟨(i 2).val, (i 2).isLt⟩
theorem val_main_v12_apply (x1 : (⟨S_, .i32⟩ : BufTy).Contents (Elt F)) (x2 : (⟨S7168x18432, .i8⟩ : BufTy).Contents (Elt F)) (i : S1x1x18432.Idx) :
    val_main_v12 (F := F) x1 x2 i = val_main_v11 (F := F) x1 x2 (idx_main_v12 i) := by
  unfold val_main_v12
  generalize val_main_v11 (F := F) x1 x2 = y
  exact broadcastInDim_apply _ bcast_S18432_S1x1x18432_2 y i (idx_main_v12 i) (fun a => match a with
    | ⟨0, _⟩ => by show (i 2).val = if (18432 : Nat) = 1 then 0 else (i 2).val; rw [if_neg (by decide)])

-- %13 = stablehlo.broadcast_in_dim %12, dims = [0, 1, 2] : (tensor<1x1x18432xi32>) -> tensor<2x128x18432xi32>
def val_main_v13 (x1 : (⟨S_, .i32⟩ : BufTy).Contents (Elt F)) (x2 : (⟨S7168x18432, .i8⟩ : BufTy).Contents (Elt F)) : (⟨S2x128x18432, .i32⟩ : BufTy).Contents (Elt F) :=
  broadcastInDim S2x128x18432 ![0, 1, 2] bcast_S1x1x18432_S2x128x18432_0_1_2 (val_main_v12 (F := F) x1 x2)
abbrev idx_main_v13 (i : S2x128x18432.Idx) : S1x1x18432.Idx := fun a => match a with
  | ⟨0, _⟩ => ⟨0, Nat.one_pos⟩
  | ⟨1, _⟩ => ⟨0, Nat.one_pos⟩
  | ⟨2, _⟩ => ⟨(i 2).val, (i 2).isLt⟩
theorem val_main_v13_apply (x1 : (⟨S_, .i32⟩ : BufTy).Contents (Elt F)) (x2 : (⟨S7168x18432, .i8⟩ : BufTy).Contents (Elt F)) (i : S2x128x18432.Idx) :
    val_main_v13 (F := F) x1 x2 i = val_main_v12 (F := F) x1 x2 (idx_main_v13 i) := by
  unfold val_main_v13
  generalize val_main_v12 (F := F) x1 x2 = y
  exact broadcastInDim_apply _ bcast_S1x1x18432_S2x128x18432_0_1_2 y i (idx_main_v13 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (18432 : Nat) = 1 then 0 else (i 2).val; rw [if_neg (by decide)])

-- %14 = stablehlo.subtract %7, %13 : tensor<2x128x18432xi32>
def val_main_v14 (x0 : (⟨S2x128x7168, .i8⟩ : BufTy).Contents (Elt F)) (x1 : (⟨S_, .i32⟩ : BufTy).Contents (Elt F)) (x2 : (⟨S7168x18432, .i8⟩ : BufTy).Contents (Elt F)) : (⟨S2x128x18432, .i32⟩ : BufTy).Contents (Elt F) :=
  subi (val_main_v7 (F := F) x0 x2) (val_main_v13 (F := F) x1 x2)
theorem val_main_v14_apply (x0 : (⟨S2x128x7168, .i8⟩ : BufTy).Contents (Elt F)) (x1 : (⟨S_, .i32⟩ : BufTy).Contents (Elt F)) (x2 : (⟨S7168x18432, .i8⟩ : BufTy).Contents (Elt F)) (i : S2x128x18432.Idx) :
    val_main_v14 (F := F) x0 x1 x2 i = IntOp.subi (val_main_v7 (F := F) x0 x2 i) (val_main_v13 (F := F) x1 x2 i) := rfl

-- %15 = stablehlo.broadcast_in_dim %arg3, dims = [2] : (tensor<18432xi32>) -> tensor<1x1x18432xi32>
def val_main_v15 (x3 : (⟨S18432, .i32⟩ : BufTy).Contents (Elt F)) : (⟨S1x1x18432, .i32⟩ : BufTy).Contents (Elt F) :=
  broadcastInDim S1x1x18432 ![2] bcast_S18432_S1x1x18432_2 (x3)
abbrev idx_main_v15 (i : S1x1x18432.Idx) : S18432.Idx := fun a => match a with
  | ⟨0, _⟩ => ⟨(i 2).val, (i 2).isLt⟩
theorem val_main_v15_apply (x3 : (⟨S18432, .i32⟩ : BufTy).Contents (Elt F)) (i : S1x1x18432.Idx) :
    val_main_v15 (F := F) x3 i = x3 (idx_main_v15 i) := by
  unfold val_main_v15
  exact broadcastInDim_apply _ bcast_S18432_S1x1x18432_2 x3 i (idx_main_v15 i) (fun a => match a with
    | ⟨0, _⟩ => by show (i 2).val = if (18432 : Nat) = 1 then 0 else (i 2).val; rw [if_neg (by decide)])

-- %16 = stablehlo.broadcast_in_dim %15, dims = [0, 1, 2] : (tensor<1x1x18432xi32>) -> tensor<2x128x18432xi32>
def val_main_v16 (x3 : (⟨S18432, .i32⟩ : BufTy).Contents (Elt F)) : (⟨S2x128x18432, .i32⟩ : BufTy).Contents (Elt F) :=
  broadcastInDim S2x128x18432 ![0, 1, 2] bcast_S1x1x18432_S2x128x18432_0_1_2 (val_main_v15 (F := F) x3)
abbrev idx_main_v16 (i : S2x128x18432.Idx) : S1x1x18432.Idx := fun a => match a with
  | ⟨0, _⟩ => ⟨0, Nat.one_pos⟩
  | ⟨1, _⟩ => ⟨0, Nat.one_pos⟩
  | ⟨2, _⟩ => ⟨(i 2).val, (i 2).isLt⟩
theorem val_main_v16_apply (x3 : (⟨S18432, .i32⟩ : BufTy).Contents (Elt F)) (i : S2x128x18432.Idx) :
    val_main_v16 (F := F) x3 i = val_main_v15 (F := F) x3 (idx_main_v16 i) := by
  unfold val_main_v16
  generalize val_main_v15 (F := F) x3 = y
  exact broadcastInDim_apply _ bcast_S1x1x18432_S2x128x18432_0_1_2 y i (idx_main_v16 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (18432 : Nat) = 1 then 0 else (i 2).val; rw [if_neg (by decide)])

-- %17 = stablehlo.add %14, %16 : tensor<2x128x18432xi32>
def val_main_v17 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  addi (val_main_v14 (F := F) x0 x1 x2) (val_main_v16 (F := F) x3)
theorem val_main_v17_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v17 (F := F) x0 x1 x2 x3 i = IntOp.addi (val_main_v14 (F := F) x0 x1 x2 i) (val_main_v16 (F := F) x3 i) := rfl

-- %c_1 = stablehlo.constant dense<0> : tensor<i32>
def val_main_c_1 : (⟨S_, .i32⟩ : BufTy).Contents (Elt F) :=
  constantI S_ 32 0#32
theorem val_main_c_1_apply (i : S_.Idx) :
    val_main_c_1 (F := F) i = 0#32 := rfl

-- %18 = stablehlo.broadcast_in_dim %c_1, dims = [] : (tensor<i32>) -> tensor<2x128x18432xi32>
def val_main_v18 : (⟨S2x128x18432, .i32⟩ : BufTy).Contents (Elt F) :=
  broadcastInDim S2x128x18432 ![] bcast_S_S2x128x18432 (val_main_c_1 (F := F))
abbrev idx_main_v18 (i : S2x128x18432.Idx) : S_.Idx := fun a => a.elim0
theorem val_main_v18_apply (i : S2x128x18432.Idx) :
    val_main_v18 (F := F) i = val_main_c_1 (F := F) (idx_main_v18 i) := by
  unfold val_main_v18
  generalize val_main_c_1 (F := F) = y
  exact broadcastInDim_apply _ bcast_S_S2x128x18432 y i (idx_main_v18 i) (fun a => a.elim0)

-- %19 = stablehlo.compare LT, %17, %18, SIGNED : (tensor<2x128x18432xi32>, tensor<2x128x18432xi32>) -> tensor<2x128x18432xi1>
def val_main_v19 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i1⟩ : BufTy).Contents (Elt F) :=
  cmpi .slt (val_main_v17 (F := F) x0 x1 x2 x3) (val_main_v18 (F := F))
theorem val_main_v19_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v19 (F := F) x0 x1 x2 x3 i = IntOp.cmpi .slt (val_main_v17 (F := F) x0 x1 x2 x3 i) (val_main_v18 (F := F) i) := rfl

-- %20 = stablehlo.abs %17 : tensor<2x128x18432xi32>
def val_main_v20 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  absi (val_main_v17 (F := F) x0 x1 x2 x3)
theorem val_main_v20_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v20 (F := F) x0 x1 x2 x3 i = IntOp.absi (val_main_v17 (F := F) x0 x1 x2 x3 i) := rfl

-- %21 = stablehlo.convert %20 : (tensor<2x128x18432xi32>) -> tensor<2x128x18432xui32>
def val_main_v21 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  id (val_main_v20 (F := F) x0 x1 x2 x3)
theorem val_main_v21_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v21 (F := F) x0 x1 x2 x3 i = (val_main_v20 (F := F) x0 x1 x2 x3 i) :=
  congrFun (show val_main_v21 (F := F) x0 x1 x2 x3 = val_main_v20 (F := F) x0 x1 x2 x3 by unfold val_main_v21; exact id_eq _) i

-- %22 = stablehlo.broadcast_in_dim %arg4, dims = [2] : (tensor<18432xi32>) -> tensor<2x128x18432xi32>
def val_main_v22 (x4 : (⟨S18432, .i32⟩ : BufTy).Contents (Elt F)) : (⟨S2x128x18432, .i32⟩ : BufTy).Contents (Elt F) :=
  broadcastInDim S2x128x18432 ![2] bcast_S18432_S2x128x18432_2 (x4)
abbrev idx_main_v22 (i : S2x128x18432.Idx) : S18432.Idx := fun a => match a with
  | ⟨0, _⟩ => ⟨(i 2).val, (i 2).isLt⟩
theorem val_main_v22_apply (x4 : (⟨S18432, .i32⟩ : BufTy).Contents (Elt F)) (i : S2x128x18432.Idx) :
    val_main_v22 (F := F) x4 i = x4 (idx_main_v22 i) := by
  unfold val_main_v22
  exact broadcastInDim_apply _ bcast_S18432_S2x128x18432_2 x4 i (idx_main_v22 i) (fun a => match a with
    | ⟨0, _⟩ => by show (i 2).val = if (18432 : Nat) = 1 then 0 else (i 2).val; rw [if_neg (by decide)])

-- %23 = stablehlo.convert %22 : (tensor<2x128x18432xi32>) -> tensor<2x128x18432xui32>
def val_main_v23 (x4 : (⟨S18432, .i32⟩ : BufTy).Contents (Elt F)) : (⟨S2x128x18432, .i32⟩ : BufTy).Contents (Elt F) :=
  id (val_main_v22 (F := F) x4)
theorem val_main_v23_apply (x4 : (⟨S18432, .i32⟩ : BufTy).Contents (Elt F)) (i : S2x128x18432.Idx) :
    val_main_v23 (F := F) x4 i = (val_main_v22 (F := F) x4 i) :=
  congrFun (show val_main_v23 (F := F) x4 = val_main_v22 (F := F) x4 by unfold val_main_v23; exact id_eq _) i

-- %c_2 = stablehlo.constant dense<16> : tensor<ui32>
def val_main_c_2 : (⟨S_, .i32⟩ : BufTy).Contents (Elt F) :=
  constantI S_ 32 16#32
theorem val_main_c_2_apply (i : S_.Idx) :
    val_main_c_2 (F := F) i = 16#32 := rfl

-- %24 = stablehlo.broadcast_in_dim %c_2, dims = [] : (tensor<ui32>) -> tensor<2x128x18432xui32>
def val_main_v24 : (⟨S2x128x18432, .i32⟩ : BufTy).Contents (Elt F) :=
  broadcastInDim S2x128x18432 ![] bcast_S_S2x128x18432 (val_main_c_2 (F := F))
abbrev idx_main_v24 (i : S2x128x18432.Idx) : S_.Idx := fun a => a.elim0
theorem val_main_v24_apply (i : S2x128x18432.Idx) :
    val_main_v24 (F := F) i = val_main_c_2 (F := F) (idx_main_v24 i) := by
  unfold val_main_v24
  generalize val_main_c_2 (F := F) = y
  exact broadcastInDim_apply _ bcast_S_S2x128x18432 y i (idx_main_v24 i) (fun a => a.elim0)

-- %25 = stablehlo.shift_right_logical %21, %24 : tensor<2x128x18432xui32>
def val_main_v25 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  Host.shrui (val_main_v21 (F := F) x0 x1 x2 x3) (val_main_v24 (F := F))
theorem val_main_v25_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v25 (F := F) x0 x1 x2 x3 i = IntOp.shrui .host (val_main_v21 (F := F) x0 x1 x2 x3 i) (val_main_v24 (F := F) i) := rfl

-- %c_3 = stablehlo.constant dense<65535> : tensor<ui32>
def val_main_c_3 : (⟨S_, .i32⟩ : BufTy).Contents (Elt F) :=
  constantI S_ 32 65535#32
theorem val_main_c_3_apply (i : S_.Idx) :
    val_main_c_3 (F := F) i = 65535#32 := rfl

-- %26 = stablehlo.broadcast_in_dim %c_3, dims = [] : (tensor<ui32>) -> tensor<2x128x18432xui32>
def val_main_v26 : (⟨S2x128x18432, .i32⟩ : BufTy).Contents (Elt F) :=
  broadcastInDim S2x128x18432 ![] bcast_S_S2x128x18432 (val_main_c_3 (F := F))
abbrev idx_main_v26 (i : S2x128x18432.Idx) : S_.Idx := fun a => a.elim0
theorem val_main_v26_apply (i : S2x128x18432.Idx) :
    val_main_v26 (F := F) i = val_main_c_3 (F := F) (idx_main_v26 i) := by
  unfold val_main_v26
  generalize val_main_c_3 (F := F) = y
  exact broadcastInDim_apply _ bcast_S_S2x128x18432 y i (idx_main_v26 i) (fun a => a.elim0)

-- %27 = stablehlo.and %21, %26 : tensor<2x128x18432xui32>
def val_main_v27 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  andi (val_main_v21 (F := F) x0 x1 x2 x3) (val_main_v26 (F := F))
theorem val_main_v27_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v27 (F := F) x0 x1 x2 x3 i = IntOp.andi (val_main_v21 (F := F) x0 x1 x2 x3 i) (val_main_v26 (F := F) i) := rfl

-- %c_4 = stablehlo.constant dense<16> : tensor<ui32>
def val_main_c_4 : (⟨S_, .i32⟩ : BufTy).Contents (Elt F) :=
  constantI S_ 32 16#32
theorem val_main_c_4_apply (i : S_.Idx) :
    val_main_c_4 (F := F) i = 16#32 := rfl

-- %28 = stablehlo.broadcast_in_dim %c_4, dims = [] : (tensor<ui32>) -> tensor<2x128x18432xui32>
def val_main_v28 : (⟨S2x128x18432, .i32⟩ : BufTy).Contents (Elt F) :=
  broadcastInDim S2x128x18432 ![] bcast_S_S2x128x18432 (val_main_c_4 (F := F))
abbrev idx_main_v28 (i : S2x128x18432.Idx) : S_.Idx := fun a => a.elim0
theorem val_main_v28_apply (i : S2x128x18432.Idx) :
    val_main_v28 (F := F) i = val_main_c_4 (F := F) (idx_main_v28 i) := by
  unfold val_main_v28
  generalize val_main_c_4 (F := F) = y
  exact broadcastInDim_apply _ bcast_S_S2x128x18432 y i (idx_main_v28 i) (fun a => a.elim0)

-- %29 = stablehlo.shift_right_logical %23, %28 : tensor<2x128x18432xui32>
def val_main_v29 (x4 : (⟨S18432, .i32⟩ : BufTy).Contents (Elt F)) : (⟨S2x128x18432, .i32⟩ : BufTy).Contents (Elt F) :=
  Host.shrui (val_main_v23 (F := F) x4) (val_main_v28 (F := F))
theorem val_main_v29_apply (x4 : (⟨S18432, .i32⟩ : BufTy).Contents (Elt F)) (i : S2x128x18432.Idx) :
    val_main_v29 (F := F) x4 i = IntOp.shrui .host (val_main_v23 (F := F) x4 i) (val_main_v28 (F := F) i) := rfl

-- %c_5 = stablehlo.constant dense<65535> : tensor<ui32>
def val_main_c_5 : (⟨S_, .i32⟩ : BufTy).Contents (Elt F) :=
  constantI S_ 32 65535#32
theorem val_main_c_5_apply (i : S_.Idx) :
    val_main_c_5 (F := F) i = 65535#32 := rfl

-- %30 = stablehlo.broadcast_in_dim %c_5, dims = [] : (tensor<ui32>) -> tensor<2x128x18432xui32>
def val_main_v30 : (⟨S2x128x18432, .i32⟩ : BufTy).Contents (Elt F) :=
  broadcastInDim S2x128x18432 ![] bcast_S_S2x128x18432 (val_main_c_5 (F := F))
abbrev idx_main_v30 (i : S2x128x18432.Idx) : S_.Idx := fun a => a.elim0
theorem val_main_v30_apply (i : S2x128x18432.Idx) :
    val_main_v30 (F := F) i = val_main_c_5 (F := F) (idx_main_v30 i) := by
  unfold val_main_v30
  generalize val_main_c_5 (F := F) = y
  exact broadcastInDim_apply _ bcast_S_S2x128x18432 y i (idx_main_v30 i) (fun a => a.elim0)

-- %31 = stablehlo.and %23, %30 : tensor<2x128x18432xui32>
def val_main_v31 (x4 : (⟨S18432, .i32⟩ : BufTy).Contents (Elt F)) : (⟨S2x128x18432, .i32⟩ : BufTy).Contents (Elt F) :=
  andi (val_main_v23 (F := F) x4) (val_main_v30 (F := F))
theorem val_main_v31_apply (x4 : (⟨S18432, .i32⟩ : BufTy).Contents (Elt F)) (i : S2x128x18432.Idx) :
    val_main_v31 (F := F) x4 i = IntOp.andi (val_main_v23 (F := F) x4 i) (val_main_v30 (F := F) i) := rfl

-- %32 = stablehlo.multiply %27, %31 : tensor<2x128x18432xui32>
def val_main_v32 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  muli (val_main_v27 (F := F) x0 x1 x2 x3) (val_main_v31 (F := F) x4)
theorem val_main_v32_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v32 (F := F) x0 x1 x2 x3 x4 i = IntOp.muli (val_main_v27 (F := F) x0 x1 x2 x3 i) (val_main_v31 (F := F) x4 i) := rfl

-- %33 = stablehlo.multiply %25, %31 : tensor<2x128x18432xui32>
def val_main_v33 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  muli (val_main_v25 (F := F) x0 x1 x2 x3) (val_main_v31 (F := F) x4)
theorem val_main_v33_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v33 (F := F) x0 x1 x2 x3 x4 i = IntOp.muli (val_main_v25 (F := F) x0 x1 x2 x3 i) (val_main_v31 (F := F) x4 i) := rfl

-- %34 = stablehlo.multiply %27, %29 : tensor<2x128x18432xui32>
def val_main_v34 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  muli (val_main_v27 (F := F) x0 x1 x2 x3) (val_main_v29 (F := F) x4)
theorem val_main_v34_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v34 (F := F) x0 x1 x2 x3 x4 i = IntOp.muli (val_main_v27 (F := F) x0 x1 x2 x3 i) (val_main_v29 (F := F) x4 i) := rfl

-- %35 = stablehlo.add %33, %34 : tensor<2x128x18432xui32>
def val_main_v35 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  addi (val_main_v33 (F := F) x0 x1 x2 x3 x4) (val_main_v34 (F := F) x0 x1 x2 x3 x4)
theorem val_main_v35_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v35 (F := F) x0 x1 x2 x3 x4 i = IntOp.addi (val_main_v33 (F := F) x0 x1 x2 x3 x4 i) (val_main_v34 (F := F) x0 x1 x2 x3 x4 i) := rfl

-- %36 = stablehlo.multiply %25, %29 : tensor<2x128x18432xui32>
def val_main_v36 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  muli (val_main_v25 (F := F) x0 x1 x2 x3) (val_main_v29 (F := F) x4)
theorem val_main_v36_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v36 (F := F) x0 x1 x2 x3 x4 i = IntOp.muli (val_main_v25 (F := F) x0 x1 x2 x3 i) (val_main_v29 (F := F) x4 i) := rfl

-- %c_6 = stablehlo.constant dense<16> : tensor<ui32>
def val_main_c_6 : (⟨S_, .i32⟩ : BufTy).Contents (Elt F) :=
  constantI S_ 32 16#32
theorem val_main_c_6_apply (i : S_.Idx) :
    val_main_c_6 (F := F) i = 16#32 := rfl

-- %37 = stablehlo.broadcast_in_dim %c_6, dims = [] : (tensor<ui32>) -> tensor<2x128x18432xui32>
def val_main_v37 : (⟨S2x128x18432, .i32⟩ : BufTy).Contents (Elt F) :=
  broadcastInDim S2x128x18432 ![] bcast_S_S2x128x18432 (val_main_c_6 (F := F))
abbrev idx_main_v37 (i : S2x128x18432.Idx) : S_.Idx := fun a => a.elim0
theorem val_main_v37_apply (i : S2x128x18432.Idx) :
    val_main_v37 (F := F) i = val_main_c_6 (F := F) (idx_main_v37 i) := by
  unfold val_main_v37
  generalize val_main_c_6 (F := F) = y
  exact broadcastInDim_apply _ bcast_S_S2x128x18432 y i (idx_main_v37 i) (fun a => a.elim0)

-- %38 = stablehlo.shift_left %35, %37 : tensor<2x128x18432xui32>
def val_main_v38 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  Host.shli (val_main_v35 (F := F) x0 x1 x2 x3 x4) (val_main_v37 (F := F))
theorem val_main_v38_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v38 (F := F) x0 x1 x2 x3 x4 i = IntOp.shli .host (val_main_v35 (F := F) x0 x1 x2 x3 x4 i) (val_main_v37 (F := F) i) := rfl

-- %39 = stablehlo.add %32, %38 : tensor<2x128x18432xui32>
def val_main_v39 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  addi (val_main_v32 (F := F) x0 x1 x2 x3 x4) (val_main_v38 (F := F) x0 x1 x2 x3 x4)
theorem val_main_v39_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v39 (F := F) x0 x1 x2 x3 x4 i = IntOp.addi (val_main_v32 (F := F) x0 x1 x2 x3 x4 i) (val_main_v38 (F := F) x0 x1 x2 x3 x4 i) := rfl

-- %40 = stablehlo.compare LT, %39, %32, UNSIGNED : (tensor<2x128x18432xui32>, tensor<2x128x18432xui32>) -> tensor<2x128x18432xi1>
def val_main_v40 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i1⟩ : BufTy).Contents (Elt F) :=
  cmpi .ult (val_main_v39 (F := F) x0 x1 x2 x3 x4) (val_main_v32 (F := F) x0 x1 x2 x3 x4)
theorem val_main_v40_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v40 (F := F) x0 x1 x2 x3 x4 i = IntOp.cmpi .ult (val_main_v39 (F := F) x0 x1 x2 x3 x4 i) (val_main_v32 (F := F) x0 x1 x2 x3 x4 i) := rfl

-- %41 = stablehlo.convert %40 : (tensor<2x128x18432xi1>) -> tensor<2x128x18432xui32>
def val_main_v41 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  extui 32 (val_main_v40 (F := F) x0 x1 x2 x3 x4) natLt_1_32
theorem val_main_v41_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v41 (F := F) x0 x1 x2 x3 x4 i = (val_main_v40 (F := F) x0 x1 x2 x3 x4 i).setWidth 32 := rfl

-- %c_7 = stablehlo.constant dense<16> : tensor<ui32>
def val_main_c_7 : (⟨S_, .i32⟩ : BufTy).Contents (Elt F) :=
  constantI S_ 32 16#32
theorem val_main_c_7_apply (i : S_.Idx) :
    val_main_c_7 (F := F) i = 16#32 := rfl

-- %42 = stablehlo.broadcast_in_dim %c_7, dims = [] : (tensor<ui32>) -> tensor<2x128x18432xui32>
def val_main_v42 : (⟨S2x128x18432, .i32⟩ : BufTy).Contents (Elt F) :=
  broadcastInDim S2x128x18432 ![] bcast_S_S2x128x18432 (val_main_c_7 (F := F))
abbrev idx_main_v42 (i : S2x128x18432.Idx) : S_.Idx := fun a => a.elim0
theorem val_main_v42_apply (i : S2x128x18432.Idx) :
    val_main_v42 (F := F) i = val_main_c_7 (F := F) (idx_main_v42 i) := by
  unfold val_main_v42
  generalize val_main_c_7 (F := F) = y
  exact broadcastInDim_apply _ bcast_S_S2x128x18432 y i (idx_main_v42 i) (fun a => a.elim0)

-- %43 = stablehlo.shift_right_logical %35, %42 : tensor<2x128x18432xui32>
def val_main_v43 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  Host.shrui (val_main_v35 (F := F) x0 x1 x2 x3 x4) (val_main_v42 (F := F))
theorem val_main_v43_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v43 (F := F) x0 x1 x2 x3 x4 i = IntOp.shrui .host (val_main_v35 (F := F) x0 x1 x2 x3 x4 i) (val_main_v42 (F := F) i) := rfl

-- %44 = stablehlo.add %36, %43 : tensor<2x128x18432xui32>
def val_main_v44 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  addi (val_main_v36 (F := F) x0 x1 x2 x3 x4) (val_main_v43 (F := F) x0 x1 x2 x3 x4)
theorem val_main_v44_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v44 (F := F) x0 x1 x2 x3 x4 i = IntOp.addi (val_main_v36 (F := F) x0 x1 x2 x3 x4 i) (val_main_v43 (F := F) x0 x1 x2 x3 x4 i) := rfl

-- %45 = stablehlo.add %44, %41 : tensor<2x128x18432xui32>
def val_main_v45 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  addi (val_main_v44 (F := F) x0 x1 x2 x3 x4) (val_main_v41 (F := F) x0 x1 x2 x3 x4)
theorem val_main_v45_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v45 (F := F) x0 x1 x2 x3 x4 i = IntOp.addi (val_main_v44 (F := F) x0 x1 x2 x3 x4 i) (val_main_v41 (F := F) x0 x1 x2 x3 x4 i) := rfl

-- %46 = stablehlo.convert %19 : (tensor<2x128x18432xi1>) -> tensor<2x128x18432xui32>
def val_main_v46 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  extui 32 (val_main_v19 (F := F) x0 x1 x2 x3) natLt_1_32
theorem val_main_v46_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v46 (F := F) x0 x1 x2 x3 i = (val_main_v19 (F := F) x0 x1 x2 x3 i).setWidth 32 := rfl

-- %c_8 = stablehlo.constant dense<1073741824> : tensor<ui32>
def val_main_c_8 : (⟨S_, .i32⟩ : BufTy).Contents (Elt F) :=
  constantI S_ 32 1073741824#32
theorem val_main_c_8_apply (i : S_.Idx) :
    val_main_c_8 (F := F) i = 1073741824#32 := rfl

-- %47 = stablehlo.broadcast_in_dim %c_8, dims = [] : (tensor<ui32>) -> tensor<2x128x18432xui32>
def val_main_v47 : (⟨S2x128x18432, .i32⟩ : BufTy).Contents (Elt F) :=
  broadcastInDim S2x128x18432 ![] bcast_S_S2x128x18432 (val_main_c_8 (F := F))
abbrev idx_main_v47 (i : S2x128x18432.Idx) : S_.Idx := fun a => a.elim0
theorem val_main_v47_apply (i : S2x128x18432.Idx) :
    val_main_v47 (F := F) i = val_main_c_8 (F := F) (idx_main_v47 i) := by
  unfold val_main_v47
  generalize val_main_c_8 (F := F) = y
  exact broadcastInDim_apply _ bcast_S_S2x128x18432 y i (idx_main_v47 i) (fun a => a.elim0)

-- %48 = stablehlo.subtract %47, %46 : tensor<2x128x18432xui32>
def val_main_v48 (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) : (⟨S2x128x18432, .i32⟩ : BufTy).Contents (Elt F) :=
  subi (val_main_v47 (F := F)) (val_main_v46 (F := F) x0 x1 x2 x3)
theorem val_main_v48_apply (x0 : (⟨S2x128x7168, .i8⟩ : BufTy).Contents (Elt F)) (x1 : (⟨S_, .i32⟩ : BufTy).Contents (Elt F)) (x2 : (⟨S7168x18432, .i8⟩ : BufTy).Contents (Elt F)) (x3 : (⟨S18432, .i32⟩ : BufTy).Contents (Elt F)) (i : S2x128x18432.Idx) :
    val_main_v48 (F := F) x0 x1 x2 x3 i = IntOp.subi (val_main_v47 (F := F) i) (val_main_v46 (F := F) x0 x1 x2 x3 i) := rfl

-- %49 = stablehlo.add %39, %48 : tensor<2x128x18432xui32>
def val_main_v49 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  addi (val_main_v39 (F := F) x0 x1 x2 x3 x4) (val_main_v48 (F := F) x0 x1 x2 x3)
theorem val_main_v49_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v49 (F := F) x0 x1 x2 x3 x4 i = IntOp.addi (val_main_v39 (F := F) x0 x1 x2 x3 x4 i) (val_main_v48 (F := F) x0 x1 x2 x3 i) := rfl

-- %50 = stablehlo.compare LT, %49, %39, UNSIGNED : (tensor<2x128x18432xui32>, tensor<2x128x18432xui32>) -> tensor<2x128x18432xi1>
def val_main_v50 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i1⟩ : BufTy).Contents (Elt F) :=
  cmpi .ult (val_main_v49 (F := F) x0 x1 x2 x3 x4) (val_main_v39 (F := F) x0 x1 x2 x3 x4)
theorem val_main_v50_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v50 (F := F) x0 x1 x2 x3 x4 i = IntOp.cmpi .ult (val_main_v49 (F := F) x0 x1 x2 x3 x4 i) (val_main_v39 (F := F) x0 x1 x2 x3 x4 i) := rfl

-- %51 = stablehlo.convert %50 : (tensor<2x128x18432xi1>) -> tensor<2x128x18432xui32>
def val_main_v51 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  extui 32 (val_main_v50 (F := F) x0 x1 x2 x3 x4) natLt_1_32
theorem val_main_v51_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v51 (F := F) x0 x1 x2 x3 x4 i = (val_main_v50 (F := F) x0 x1 x2 x3 x4 i).setWidth 32 := rfl

-- %52 = stablehlo.add %45, %51 : tensor<2x128x18432xui32>
def val_main_v52 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  addi (val_main_v45 (F := F) x0 x1 x2 x3 x4) (val_main_v51 (F := F) x0 x1 x2 x3 x4)
theorem val_main_v52_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v52 (F := F) x0 x1 x2 x3 x4 i = IntOp.addi (val_main_v45 (F := F) x0 x1 x2 x3 x4 i) (val_main_v51 (F := F) x0 x1 x2 x3 x4 i) := rfl

-- %c_9 = stablehlo.constant dense<1> : tensor<ui32>
def val_main_c_9 : (⟨S_, .i32⟩ : BufTy).Contents (Elt F) :=
  constantI S_ 32 1#32
theorem val_main_c_9_apply (i : S_.Idx) :
    val_main_c_9 (F := F) i = 1#32 := rfl

-- %53 = stablehlo.broadcast_in_dim %c_9, dims = [] : (tensor<ui32>) -> tensor<2x128x18432xui32>
def val_main_v53 : (⟨S2x128x18432, .i32⟩ : BufTy).Contents (Elt F) :=
  broadcastInDim S2x128x18432 ![] bcast_S_S2x128x18432 (val_main_c_9 (F := F))
abbrev idx_main_v53 (i : S2x128x18432.Idx) : S_.Idx := fun a => a.elim0
theorem val_main_v53_apply (i : S2x128x18432.Idx) :
    val_main_v53 (F := F) i = val_main_c_9 (F := F) (idx_main_v53 i) := by
  unfold val_main_v53
  generalize val_main_c_9 (F := F) = y
  exact broadcastInDim_apply _ bcast_S_S2x128x18432 y i (idx_main_v53 i) (fun a => a.elim0)

-- %54 = stablehlo.shift_left %52, %53 : tensor<2x128x18432xui32>
def val_main_v54 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  Host.shli (val_main_v52 (F := F) x0 x1 x2 x3 x4) (val_main_v53 (F := F))
theorem val_main_v54_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v54 (F := F) x0 x1 x2 x3 x4 i = IntOp.shli .host (val_main_v52 (F := F) x0 x1 x2 x3 x4 i) (val_main_v53 (F := F) i) := rfl

-- %c_10 = stablehlo.constant dense<31> : tensor<ui32>
def val_main_c_10 : (⟨S_, .i32⟩ : BufTy).Contents (Elt F) :=
  constantI S_ 32 31#32
theorem val_main_c_10_apply (i : S_.Idx) :
    val_main_c_10 (F := F) i = 31#32 := rfl

-- %55 = stablehlo.broadcast_in_dim %c_10, dims = [] : (tensor<ui32>) -> tensor<2x128x18432xui32>
def val_main_v55 : (⟨S2x128x18432, .i32⟩ : BufTy).Contents (Elt F) :=
  broadcastInDim S2x128x18432 ![] bcast_S_S2x128x18432 (val_main_c_10 (F := F))
abbrev idx_main_v55 (i : S2x128x18432.Idx) : S_.Idx := fun a => a.elim0
theorem val_main_v55_apply (i : S2x128x18432.Idx) :
    val_main_v55 (F := F) i = val_main_c_10 (F := F) (idx_main_v55 i) := by
  unfold val_main_v55
  generalize val_main_c_10 (F := F) = y
  exact broadcastInDim_apply _ bcast_S_S2x128x18432 y i (idx_main_v55 i) (fun a => a.elim0)

-- %56 = stablehlo.shift_right_logical %49, %55 : tensor<2x128x18432xui32>
def val_main_v56 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  Host.shrui (val_main_v49 (F := F) x0 x1 x2 x3 x4) (val_main_v55 (F := F))
theorem val_main_v56_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v56 (F := F) x0 x1 x2 x3 x4 i = IntOp.shrui .host (val_main_v49 (F := F) x0 x1 x2 x3 x4 i) (val_main_v55 (F := F) i) := rfl

-- %57 = stablehlo.or %54, %56 : tensor<2x128x18432xui32>
def val_main_v57 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  ori (val_main_v54 (F := F) x0 x1 x2 x3 x4) (val_main_v56 (F := F) x0 x1 x2 x3 x4)
theorem val_main_v57_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v57 (F := F) x0 x1 x2 x3 x4 i = IntOp.ori (val_main_v54 (F := F) x0 x1 x2 x3 x4 i) (val_main_v56 (F := F) x0 x1 x2 x3 x4 i) := rfl

-- %58 = stablehlo.convert %57 : (tensor<2x128x18432xui32>) -> tensor<2x128x18432xi32>
def val_main_v58 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  id (val_main_v57 (F := F) x0 x1 x2 x3 x4)
theorem val_main_v58_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v58 (F := F) x0 x1 x2 x3 x4 i = (val_main_v57 (F := F) x0 x1 x2 x3 x4 i) :=
  congrFun (show val_main_v58 (F := F) x0 x1 x2 x3 x4 = val_main_v57 (F := F) x0 x1 x2 x3 x4 by unfold val_main_v58; exact id_eq _) i

-- %59 = stablehlo.negate %58 : tensor<2x128x18432xi32>
def val_main_v59 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  negi (val_main_v58 (F := F) x0 x1 x2 x3 x4)
theorem val_main_v59_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v59 (F := F) x0 x1 x2 x3 x4 i = -(val_main_v58 (F := F) x0 x1 x2 x3 x4 i) := rfl

-- %60 = func.call @_where(…) (record main_call0) result 0: @_where's %0 = stablehlo.select %arg0, %arg1, %arg2 : tensor<2x128x18432xi1>, tensor<2x128x18432xi32>
def val_main_v60 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  select (val_main_v19 (F := F) x0 x1 x2 x3) (val_main_v59 (F := F) x0 x1 x2 x3 x4) (val_main_v58 (F := F) x0 x1 x2 x3 x4)
theorem val_main_v60_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v60 (F := F) x0 x1 x2 x3 x4 i = Scalar.select (val_main_v19 (F := F) x0 x1 x2 x3 i) (val_main_v59 (F := F) x0 x1 x2 x3 x4 i) (val_main_v58 (F := F) x0 x1 x2 x3 x4 i) := rfl

-- %c_11 = stablehlo.constant dense<1> : tensor<i32>
def val_main_c_11 : (⟨S_, .i32⟩ : BufTy).Contents (Elt F) :=
  constantI S_ 32 1#32
theorem val_main_c_11_apply (i : S_.Idx) :
    val_main_c_11 (F := F) i = 1#32 := rfl

-- %61 = stablehlo.broadcast_in_dim %c_11, dims = [] : (tensor<i32>) -> tensor<18432xi32>
def val_main_v61 : (⟨S18432, .i32⟩ : BufTy).Contents (Elt F) :=
  broadcastInDim S18432 ![] bcast_S_S18432 (val_main_c_11 (F := F))
abbrev idx_main_v61 (i : S18432.Idx) : S_.Idx := fun a => a.elim0
theorem val_main_v61_apply (i : S18432.Idx) :
    val_main_v61 (F := F) i = val_main_c_11 (F := F) (idx_main_v61 i) := by
  unfold val_main_v61
  generalize val_main_c_11 (F := F) = y
  exact broadcastInDim_apply _ bcast_S_S18432 y i (idx_main_v61 i) (fun a => a.elim0)

-- %62 = stablehlo.shift_left %61, %arg5 : tensor<18432xi32>
def val_main_v62 (x5 : (⟨S18432, .i32⟩ : BufTy).Contents (Elt F)) : (⟨S18432, .i32⟩ : BufTy).Contents (Elt F) :=
  Host.shli (val_main_v61 (F := F)) (x5)
theorem val_main_v62_apply (x5 : (⟨S18432, .i32⟩ : BufTy).Contents (Elt F)) (i : S18432.Idx) :
    val_main_v62 (F := F) x5 i = IntOp.shli .host (val_main_v61 (F := F) i) (x5 i) := rfl

-- %c_12 = stablehlo.constant dense<1> : tensor<i32>
def val_main_c_12 : (⟨S_, .i32⟩ : BufTy).Contents (Elt F) :=
  constantI S_ 32 1#32
theorem val_main_c_12_apply (i : S_.Idx) :
    val_main_c_12 (F := F) i = 1#32 := rfl

-- %63 = stablehlo.broadcast_in_dim %c_12, dims = [] : (tensor<i32>) -> tensor<18432xi32>
def val_main_v63 : (⟨S18432, .i32⟩ : BufTy).Contents (Elt F) :=
  broadcastInDim S18432 ![] bcast_S_S18432 (val_main_c_12 (F := F))
abbrev idx_main_v63 (i : S18432.Idx) : S_.Idx := fun a => a.elim0
theorem val_main_v63_apply (i : S18432.Idx) :
    val_main_v63 (F := F) i = val_main_c_12 (F := F) (idx_main_v63 i) := by
  unfold val_main_v63
  generalize val_main_c_12 (F := F) = y
  exact broadcastInDim_apply _ bcast_S_S18432 y i (idx_main_v63 i) (fun a => a.elim0)

-- %64 = stablehlo.subtract %62, %63 : tensor<18432xi32>
def val_main_v64 (x5 : (⟨S18432, .i32⟩ : BufTy).Contents (Elt F)) : (⟨S18432, .i32⟩ : BufTy).Contents (Elt F) :=
  subi (val_main_v62 (F := F) x5) (val_main_v63 (F := F))
theorem val_main_v64_apply (x5 : (⟨S18432, .i32⟩ : BufTy).Contents (Elt F)) (i : S18432.Idx) :
    val_main_v64 (F := F) x5 i = IntOp.subi (val_main_v62 (F := F) x5 i) (val_main_v63 (F := F) i) := rfl

-- %65 = stablehlo.broadcast_in_dim %64, dims = [2] : (tensor<18432xi32>) -> tensor<1x1x18432xi32>
def val_main_v65 (x5 : (⟨S18432, .i32⟩ : BufTy).Contents (Elt F)) : (⟨S1x1x18432, .i32⟩ : BufTy).Contents (Elt F) :=
  broadcastInDim S1x1x18432 ![2] bcast_S18432_S1x1x18432_2 (val_main_v64 (F := F) x5)
abbrev idx_main_v65 (i : S1x1x18432.Idx) : S18432.Idx := fun a => match a with
  | ⟨0, _⟩ => ⟨(i 2).val, (i 2).isLt⟩
theorem val_main_v65_apply (x5 : (⟨S18432, .i32⟩ : BufTy).Contents (Elt F)) (i : S1x1x18432.Idx) :
    val_main_v65 (F := F) x5 i = val_main_v64 (F := F) x5 (idx_main_v65 i) := by
  unfold val_main_v65
  generalize val_main_v64 (F := F) x5 = y
  exact broadcastInDim_apply _ bcast_S18432_S1x1x18432_2 y i (idx_main_v65 i) (fun a => match a with
    | ⟨0, _⟩ => by show (i 2).val = if (18432 : Nat) = 1 then 0 else (i 2).val; rw [if_neg (by decide)])

-- %66 = stablehlo.broadcast_in_dim %65, dims = [0, 1, 2] : (tensor<1x1x18432xi32>) -> tensor<2x128x18432xi32>
def val_main_v66 (x5 : (⟨S18432, .i32⟩ : BufTy).Contents (Elt F)) : (⟨S2x128x18432, .i32⟩ : BufTy).Contents (Elt F) :=
  broadcastInDim S2x128x18432 ![0, 1, 2] bcast_S1x1x18432_S2x128x18432_0_1_2 (val_main_v65 (F := F) x5)
abbrev idx_main_v66 (i : S2x128x18432.Idx) : S1x1x18432.Idx := fun a => match a with
  | ⟨0, _⟩ => ⟨0, Nat.one_pos⟩
  | ⟨1, _⟩ => ⟨0, Nat.one_pos⟩
  | ⟨2, _⟩ => ⟨(i 2).val, (i 2).isLt⟩
theorem val_main_v66_apply (x5 : (⟨S18432, .i32⟩ : BufTy).Contents (Elt F)) (i : S2x128x18432.Idx) :
    val_main_v66 (F := F) x5 i = val_main_v65 (F := F) x5 (idx_main_v66 i) := by
  unfold val_main_v66
  generalize val_main_v65 (F := F) x5 = y
  exact broadcastInDim_apply _ bcast_S1x1x18432_S2x128x18432_0_1_2 y i (idx_main_v66 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (18432 : Nat) = 1 then 0 else (i 2).val; rw [if_neg (by decide)])

-- %67 = stablehlo.and %60, %66 : tensor<2x128x18432xi32>
def val_main_v67 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) : (⟨S2x128x18432, .i32⟩ : BufTy).Contents (Elt F) :=
  andi (val_main_v60 (F := F) x0 x1 x2 x3 x4) (val_main_v66 (F := F) x5)
theorem val_main_v67_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (i : S2x128x18432.Idx) :
    val_main_v67 (F := F) x0 x1 x2 x3 x4 x5 i = IntOp.andi (val_main_v60 (F := F) x0 x1 x2 x3 x4 i) (val_main_v66 (F := F) x5 i) := rfl

-- %c_13 = stablehlo.constant dense<1> : tensor<i32>
def val_main_c_13 : (⟨S_, .i32⟩ : BufTy).Contents (Elt F) :=
  constantI S_ 32 1#32
theorem val_main_c_13_apply (i : S_.Idx) :
    val_main_c_13 (F := F) i = 1#32 := rfl

-- %68 = stablehlo.broadcast_in_dim %c_13, dims = [] : (tensor<i32>) -> tensor<18432xi32>
def val_main_v68 : (⟨S18432, .i32⟩ : BufTy).Contents (Elt F) :=
  broadcastInDim S18432 ![] bcast_S_S18432 (val_main_c_13 (F := F))
abbrev idx_main_v68 (i : S18432.Idx) : S_.Idx := fun a => a.elim0
theorem val_main_v68_apply (i : S18432.Idx) :
    val_main_v68 (F := F) i = val_main_c_13 (F := F) (idx_main_v68 i) := by
  unfold val_main_v68
  generalize val_main_c_13 (F := F) = y
  exact broadcastInDim_apply _ bcast_S_S18432 y i (idx_main_v68 i) (fun a => a.elim0)

-- %69 = stablehlo.shift_right_arithmetic %64, %68 : tensor<18432xi32>
def val_main_v69 (x5 : (⟨S18432, .i32⟩ : BufTy).Contents (Elt F)) : (⟨S18432, .i32⟩ : BufTy).Contents (Elt F) :=
  Host.shrsi (val_main_v64 (F := F) x5) (val_main_v68 (F := F))
theorem val_main_v69_apply (x5 : (⟨S18432, .i32⟩ : BufTy).Contents (Elt F)) (i : S18432.Idx) :
    val_main_v69 (F := F) x5 i = IntOp.shrsi .host (val_main_v64 (F := F) x5 i) (val_main_v68 (F := F) i) := rfl

-- %c_14 = stablehlo.constant dense<0> : tensor<i32>
def val_main_c_14 : (⟨S_, .i32⟩ : BufTy).Contents (Elt F) :=
  constantI S_ 32 0#32
theorem val_main_c_14_apply (i : S_.Idx) :
    val_main_c_14 (F := F) i = 0#32 := rfl

-- %70 = stablehlo.broadcast_in_dim %c_14, dims = [] : (tensor<i32>) -> tensor<2x128x18432xi32>
def val_main_v70 : (⟨S2x128x18432, .i32⟩ : BufTy).Contents (Elt F) :=
  broadcastInDim S2x128x18432 ![] bcast_S_S2x128x18432 (val_main_c_14 (F := F))
abbrev idx_main_v70 (i : S2x128x18432.Idx) : S_.Idx := fun a => a.elim0
theorem val_main_v70_apply (i : S2x128x18432.Idx) :
    val_main_v70 (F := F) i = val_main_c_14 (F := F) (idx_main_v70 i) := by
  unfold val_main_v70
  generalize val_main_c_14 (F := F) = y
  exact broadcastInDim_apply _ bcast_S_S2x128x18432 y i (idx_main_v70 i) (fun a => a.elim0)

-- %71 = stablehlo.compare LT, %60, %70, SIGNED : (tensor<2x128x18432xi32>, tensor<2x128x18432xi32>) -> tensor<2x128x18432xi1>
def val_main_v71 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i1⟩ : BufTy).Contents (Elt F) :=
  cmpi .slt (val_main_v60 (F := F) x0 x1 x2 x3 x4) (val_main_v70 (F := F))
theorem val_main_v71_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v71 (F := F) x0 x1 x2 x3 x4 i = IntOp.cmpi .slt (val_main_v60 (F := F) x0 x1 x2 x3 x4 i) (val_main_v70 (F := F) i) := rfl

-- %72 = stablehlo.convert %71 : (tensor<2x128x18432xi1>) -> tensor<2x128x18432xi32>
def val_main_v72 (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) : (⟨S2x128x18432, .i32⟩ : BufTy).Contents (Elt F) :=
  extui 32 (val_main_v71 (F := F) x0 x1 x2 x3 x4) natLt_1_32
theorem val_main_v72_apply (x0 : (⟨S2x128x7168, .i8⟩ : BufTy).Contents (Elt F)) (x1 : (⟨S_, .i32⟩ : BufTy).Contents (Elt F)) (x2 : (⟨S7168x18432, .i8⟩ : BufTy).Contents (Elt F)) (x3 x4 : (⟨S18432, .i32⟩ : BufTy).Contents (Elt F)) (i : S2x128x18432.Idx) :
    val_main_v72 (F := F) x0 x1 x2 x3 x4 i = (val_main_v71 (F := F) x0 x1 x2 x3 x4 i).setWidth 32 := rfl

-- %73 = stablehlo.broadcast_in_dim %69, dims = [2] : (tensor<18432xi32>) -> tensor<1x1x18432xi32>
def val_main_v73 (x5 : (⟨S18432, .i32⟩ : BufTy).Contents (Elt F)) : (⟨S1x1x18432, .i32⟩ : BufTy).Contents (Elt F) :=
  broadcastInDim S1x1x18432 ![2] bcast_S18432_S1x1x18432_2 (val_main_v69 (F := F) x5)
abbrev idx_main_v73 (i : S1x1x18432.Idx) : S18432.Idx := fun a => match a with
  | ⟨0, _⟩ => ⟨(i 2).val, (i 2).isLt⟩
theorem val_main_v73_apply (x5 : (⟨S18432, .i32⟩ : BufTy).Contents (Elt F)) (i : S1x1x18432.Idx) :
    val_main_v73 (F := F) x5 i = val_main_v69 (F := F) x5 (idx_main_v73 i) := by
  unfold val_main_v73
  generalize val_main_v69 (F := F) x5 = y
  exact broadcastInDim_apply _ bcast_S18432_S1x1x18432_2 y i (idx_main_v73 i) (fun a => match a with
    | ⟨0, _⟩ => by show (i 2).val = if (18432 : Nat) = 1 then 0 else (i 2).val; rw [if_neg (by decide)])

-- %74 = stablehlo.broadcast_in_dim %73, dims = [0, 1, 2] : (tensor<1x1x18432xi32>) -> tensor<2x128x18432xi32>
def val_main_v74 (x5 : (⟨S18432, .i32⟩ : BufTy).Contents (Elt F)) : (⟨S2x128x18432, .i32⟩ : BufTy).Contents (Elt F) :=
  broadcastInDim S2x128x18432 ![0, 1, 2] bcast_S1x1x18432_S2x128x18432_0_1_2 (val_main_v73 (F := F) x5)
abbrev idx_main_v74 (i : S2x128x18432.Idx) : S1x1x18432.Idx := fun a => match a with
  | ⟨0, _⟩ => ⟨0, Nat.one_pos⟩
  | ⟨1, _⟩ => ⟨0, Nat.one_pos⟩
  | ⟨2, _⟩ => ⟨(i 2).val, (i 2).isLt⟩
theorem val_main_v74_apply (x5 : (⟨S18432, .i32⟩ : BufTy).Contents (Elt F)) (i : S2x128x18432.Idx) :
    val_main_v74 (F := F) x5 i = val_main_v73 (F := F) x5 (idx_main_v74 i) := by
  unfold val_main_v74
  generalize val_main_v73 (F := F) x5 = y
  exact broadcastInDim_apply _ bcast_S1x1x18432_S2x128x18432_0_1_2 y i (idx_main_v74 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (18432 : Nat) = 1 then 0 else (i 2).val; rw [if_neg (by decide)])

-- %75 = stablehlo.add %74, %72 : tensor<2x128x18432xi32>
def val_main_v75 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) : (⟨S2x128x18432, .i32⟩ : BufTy).Contents (Elt F) :=
  addi (val_main_v74 (F := F) x5) (val_main_v72 (F := F) x0 x1 x2 x3 x4)
theorem val_main_v75_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (i : S2x128x18432.Idx) :
    val_main_v75 (F := F) x0 x1 x2 x3 x4 x5 i = IntOp.addi (val_main_v74 (F := F) x5 i) (val_main_v72 (F := F) x0 x1 x2 x3 x4 i) := rfl

-- %76 = stablehlo.broadcast_in_dim %arg5, dims = [2] : (tensor<18432xi32>) -> tensor<2x128x18432xi32>
def val_main_v76 (x5 : (⟨S18432, .i32⟩ : BufTy).Contents (Elt F)) : (⟨S2x128x18432, .i32⟩ : BufTy).Contents (Elt F) :=
  broadcastInDim S2x128x18432 ![2] bcast_S18432_S2x128x18432_2 (x5)
abbrev idx_main_v76 (i : S2x128x18432.Idx) : S18432.Idx := fun a => match a with
  | ⟨0, _⟩ => ⟨(i 2).val, (i 2).isLt⟩
theorem val_main_v76_apply (x5 : (⟨S18432, .i32⟩ : BufTy).Contents (Elt F)) (i : S2x128x18432.Idx) :
    val_main_v76 (F := F) x5 i = x5 (idx_main_v76 i) := by
  unfold val_main_v76
  exact broadcastInDim_apply _ bcast_S18432_S2x128x18432_2 x5 i (idx_main_v76 i) (fun a => match a with
    | ⟨0, _⟩ => by show (i 2).val = if (18432 : Nat) = 1 then 0 else (i 2).val; rw [if_neg (by decide)])

-- %77 = stablehlo.shift_right_arithmetic %60, %76 : tensor<2x128x18432xi32>
def val_main_v77 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) : (⟨S2x128x18432, .i32⟩ : BufTy).Contents (Elt F) :=
  Host.shrsi (val_main_v60 (F := F) x0 x1 x2 x3 x4) (val_main_v76 (F := F) x5)
theorem val_main_v77_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (i : S2x128x18432.Idx) :
    val_main_v77 (F := F) x0 x1 x2 x3 x4 x5 i = IntOp.shrsi .host (val_main_v60 (F := F) x0 x1 x2 x3 x4 i) (val_main_v76 (F := F) x5 i) := rfl

-- %78 = stablehlo.compare GT, %67, %75, SIGNED : (tensor<2x128x18432xi32>, tensor<2x128x18432xi32>) -> tensor<2x128x18432xi1>
def val_main_v78 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) : (⟨S2x128x18432, .i1⟩ : BufTy).Contents (Elt F) :=
  cmpi .sgt (val_main_v67 (F := F) x0 x1 x2 x3 x4 x5) (val_main_v75 (F := F) x0 x1 x2 x3 x4 x5)
theorem val_main_v78_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (i : S2x128x18432.Idx) :
    val_main_v78 (F := F) x0 x1 x2 x3 x4 x5 i = IntOp.cmpi .sgt (val_main_v67 (F := F) x0 x1 x2 x3 x4 x5 i) (val_main_v75 (F := F) x0 x1 x2 x3 x4 x5 i) := rfl

-- %79 = stablehlo.convert %78 : (tensor<2x128x18432xi1>) -> tensor<2x128x18432xi32>
def val_main_v79 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) : (⟨S2x128x18432, .i32⟩ : BufTy).Contents (Elt F) :=
  extui 32 (val_main_v78 (F := F) x0 x1 x2 x3 x4 x5) natLt_1_32
theorem val_main_v79_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (i : S2x128x18432.Idx) :
    val_main_v79 (F := F) x0 x1 x2 x3 x4 x5 i = (val_main_v78 (F := F) x0 x1 x2 x3 x4 x5 i).setWidth 32 := rfl

-- %80 = stablehlo.add %77, %79 : tensor<2x128x18432xi32>
def val_main_v80 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) : (⟨S2x128x18432, .i32⟩ : BufTy).Contents (Elt F) :=
  addi (val_main_v77 (F := F) x0 x1 x2 x3 x4 x5) (val_main_v79 (F := F) x0 x1 x2 x3 x4 x5)
theorem val_main_v80_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (i : S2x128x18432.Idx) :
    val_main_v80 (F := F) x0 x1 x2 x3 x4 x5 i = IntOp.addi (val_main_v77 (F := F) x0 x1 x2 x3 x4 x5 i) (val_main_v79 (F := F) x0 x1 x2 x3 x4 x5 i) := rfl

-- %81 = stablehlo.broadcast_in_dim %arg6, dims = [] : (tensor<i32>) -> tensor<2x128x18432xi32>
def val_main_v81 (x6 : (⟨S_, .i32⟩ : BufTy).Contents (Elt F)) : (⟨S2x128x18432, .i32⟩ : BufTy).Contents (Elt F) :=
  broadcastInDim S2x128x18432 ![] bcast_S_S2x128x18432 (x6)
abbrev idx_main_v81 (i : S2x128x18432.Idx) : S_.Idx := fun a => a.elim0
theorem val_main_v81_apply (x6 : (⟨S_, .i32⟩ : BufTy).Contents (Elt F)) (i : S2x128x18432.Idx) :
    val_main_v81 (F := F) x6 i = x6 (idx_main_v81 i) := by
  unfold val_main_v81
  exact broadcastInDim_apply _ bcast_S_S2x128x18432 x6 i (idx_main_v81 i) (fun a => a.elim0)

-- %82 = stablehlo.add %80, %81 : tensor<2x128x18432xi32>
def val_main_v82 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) : (⟨S2x128x18432, .i32⟩ : BufTy).Contents (Elt F) :=
  addi (val_main_v80 (F := F) x0 x1 x2 x3 x4 x5) (val_main_v81 (F := F) x6)
theorem val_main_v82_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) (i : S2x128x18432.Idx) :
    val_main_v82 (F := F) x0 x1 x2 x3 x4 x5 x6 i = IntOp.addi (val_main_v80 (F := F) x0 x1 x2 x3 x4 x5 i) (val_main_v81 (F := F) x6 i) := rfl

-- %c_15 = stablehlo.constant dense<-128> : tensor<i32>
def val_main_c_15 : (⟨S_, .i32⟩ : BufTy).Contents (Elt F) :=
  constantI S_ 32 4294967168#32
theorem val_main_c_15_apply (i : S_.Idx) :
    val_main_c_15 (F := F) i = 4294967168#32 := rfl

-- %c_16 = stablehlo.constant dense<127> : tensor<i32>
def val_main_c_16 : (⟨S_, .i32⟩ : BufTy).Contents (Elt F) :=
  constantI S_ 32 127#32
theorem val_main_c_16_apply (i : S_.Idx) :
    val_main_c_16 (F := F) i = 127#32 := rfl

-- @clip's %0 = stablehlo.convert %arg1 : tensor<i32>, in %83 = func.call @clip(…) (record main_call1)
def val_main_call1_v0 : (⟨S_, .i32⟩ : BufTy).Contents (Elt F) :=
  id (val_main_c_15 (F := F))
theorem val_main_call1_v0_apply (i : S_.Idx) :
    val_main_call1_v0 (F := F) i = (val_main_c_15 (F := F) i) := rfl

-- @clip's %1 = stablehlo.broadcast_in_dim %0, dims = [] : (tensor<i32>) -> tensor<2x128x18432xi32>, in %83 = func.call @clip(…) (record main_call1)
def val_main_call1_v1 : (⟨S2x128x18432, .i32⟩ : BufTy).Contents (Elt F) :=
  broadcastInDim S2x128x18432 ![] bcast_S_S2x128x18432 (val_main_call1_v0 (F := F))
abbrev idx_main_call1_v1 (i : S2x128x18432.Idx) : S_.Idx := fun a => a.elim0
theorem val_main_call1_v1_apply (i : S2x128x18432.Idx) :
    val_main_call1_v1 (F := F) i = val_main_call1_v0 (F := F) (idx_main_call1_v1 i) := by
  unfold val_main_call1_v1
  generalize val_main_call1_v0 (F := F) = y
  exact broadcastInDim_apply _ bcast_S_S2x128x18432 y i (idx_main_call1_v1 i) (fun a => a.elim0)

-- @clip's %2 = stablehlo.maximum %1, %arg0 : tensor<2x128x18432xi32>, in %83 = func.call @clip(…) (record main_call1)
def val_main_call1_v2 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) : (⟨S2x128x18432, .i32⟩ : BufTy).Contents (Elt F) :=
  maxsi (val_main_call1_v1 (F := F)) (val_main_v82 (F := F) x0 x1 x2 x3 x4 x5 x6)
theorem val_main_call1_v2_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) (i : S2x128x18432.Idx) :
    val_main_call1_v2 (F := F) x0 x1 x2 x3 x4 x5 x6 i = IntOp.maxsi (val_main_call1_v1 (F := F) i) (val_main_v82 (F := F) x0 x1 x2 x3 x4 x5 x6 i) := rfl

-- @clip's %3 = stablehlo.convert %arg2 : tensor<i32>, in %83 = func.call @clip(…) (record main_call1)
def val_main_call1_v3 : (⟨S_, .i32⟩ : BufTy).Contents (Elt F) :=
  id (val_main_c_16 (F := F))
theorem val_main_call1_v3_apply (i : S_.Idx) :
    val_main_call1_v3 (F := F) i = (val_main_c_16 (F := F) i) := rfl

-- @clip's %4 = stablehlo.broadcast_in_dim %3, dims = [] : (tensor<i32>) -> tensor<2x128x18432xi32>, in %83 = func.call @clip(…) (record main_call1)
def val_main_call1_v4 : (⟨S2x128x18432, .i32⟩ : BufTy).Contents (Elt F) :=
  broadcastInDim S2x128x18432 ![] bcast_S_S2x128x18432 (val_main_call1_v3 (F := F))
abbrev idx_main_call1_v4 (i : S2x128x18432.Idx) : S_.Idx := fun a => a.elim0
theorem val_main_call1_v4_apply (i : S2x128x18432.Idx) :
    val_main_call1_v4 (F := F) i = val_main_call1_v3 (F := F) (idx_main_call1_v4 i) := by
  unfold val_main_call1_v4
  generalize val_main_call1_v3 (F := F) = y
  exact broadcastInDim_apply _ bcast_S_S2x128x18432 y i (idx_main_call1_v4 i) (fun a => a.elim0)

-- %83 = func.call @clip(…) (record main_call1) result 0: @clip's %5 = stablehlo.minimum %4, %2 : tensor<2x128x18432xi32>
def val_main_v83 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) : (⟨S2x128x18432, .i32⟩ : BufTy).Contents (Elt F) :=
  minsi (val_main_call1_v4 (F := F)) (val_main_call1_v2 (F := F) x0 x1 x2 x3 x4 x5 x6)
theorem val_main_v83_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) (i : S2x128x18432.Idx) :
    val_main_v83 (F := F) x0 x1 x2 x3 x4 x5 x6 i = IntOp.minsi (val_main_call1_v4 (F := F) i) (val_main_call1_v2 (F := F) x0 x1 x2 x3 x4 x5 x6 i) := rfl

-- %84 = stablehlo.convert %83 : (tensor<2x128x18432xi32>) -> tensor<2x128x18432xi8>
def val_main_v84 (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) : (⟨S2x128x18432, .i8⟩ : BufTy).Contents (Elt F) :=
  trunci 8 (val_main_v83 (F := F) x0 x1 x2 x3 x4 x5 x6) natLt_8_32
theorem val_main_v84_apply (x0 : (⟨S2x128x7168, .i8⟩ : BufTy).Contents (Elt F)) (x1 : (⟨S_, .i32⟩ : BufTy).Contents (Elt F)) (x2 : (⟨S7168x18432, .i8⟩ : BufTy).Contents (Elt F)) (x3 x4 x5 : (⟨S18432, .i32⟩ : BufTy).Contents (Elt F)) (x6 : (⟨S_, .i32⟩ : BufTy).Contents (Elt F)) (i : S2x128x18432.Idx) :
    val_main_v84 (F := F) x0 x1 x2 x3 x4 x5 x6 i = (val_main_v83 (F := F) x0 x1 x2 x3 x4 x5 x6 i).setWidth 8 := rfl

/-- The term the Run module states for `main_v84` over any contents `V0` is the stage. -/
theorem val_main_v84_eq (V0 : Valuation τ sig (Elt F)) :
    trunci 8 (minsi (broadcastInDim S2x128x18432 ![] bcast_S_S2x128x18432 (id (constantI S_ 32 127#32))) (maxsi (broadcastInDim S2x128x18432 ![] bcast_S_S2x128x18432 (id (constantI S_ 32 4294967168#32))) (addi (addi (Host.shrsi (Cert.ReferenceIdeal.Value.res_main_v60 V0) (broadcastInDim S2x128x18432 ![2] bcast_S18432_S2x128x18432_2 (V0 (Proc.devRef .tc main_arg5)))) (extui 32 (cmpi .sgt (andi (Cert.ReferenceIdeal.Value.res_main_v60 V0) (broadcastInDim S2x128x18432 ![0, 1, 2] bcast_S1x1x18432_S2x128x18432_0_1_2 (broadcastInDim S1x1x18432 ![2] bcast_S18432_S1x1x18432_2 (Cert.ReferenceIdeal.Value.res_main_v64 V0)))) (addi (broadcastInDim S2x128x18432 ![0, 1, 2] bcast_S1x1x18432_S2x128x18432_0_1_2 (broadcastInDim S1x1x18432 ![2] bcast_S18432_S1x1x18432_2 (Host.shrsi (Cert.ReferenceIdeal.Value.res_main_v64 V0) (broadcastInDim S18432 ![] bcast_S_S18432 (constantI S_ 32 1#32))))) (extui 32 (cmpi .slt (Cert.ReferenceIdeal.Value.res_main_v60 V0) (broadcastInDim S2x128x18432 ![] bcast_S_S2x128x18432 (constantI S_ 32 0#32))) natLt_1_32))) natLt_1_32)) (broadcastInDim S2x128x18432 ![] bcast_S_S2x128x18432 (V0 (Proc.devRef .tc main_arg6)))))) natLt_8_32
      = val_main_v84 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := rfl

end Cert.ReferenceIdeal.Stages

end
-- ==== Proof.Block.lean ====
/-
  What one grid point leaves in the output's block, as a term of the blocks it reads: the fourteen products of a chunk of
  the offset input with a chunk of the weights, summed as integers, and the requantization of the sum.
-/
module

public import proofs.«01_k».proof.Proof.Gen.KernelIdeal.Frame
public import Idealize.ShloMosaic.Lib.Pipeline.Value
public import Idealize.ShloMosaic.Lib.VecWindow
public import Idealize.ShloMosaic.Lib.Tactic

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- The offsets of a whole load are zero. -/
theorem hz : (![0, 0] : Fin 2 → Nat) = fun _ => 0 := funext fun a => by fin_cases a <;> rfl

/-- The offset of a whole load of one word is zero. -/
theorem hz1 : (![0] : Fin 1 → Nat) = fun _ => 0 := funext fun a => by fin_cases a <;> rfl

/-- The accumulator block: the fourteen chunk products of the scratch `s` (the input less its zero point) with the weights
    `w`, each converted to an integer and summed as integers, and the bias row `b` added. -/
def accBlock (s : Vec F S256x7168 .bf16) (w : Vec F S7168x1024 .i8) (b : Vec F S1x1024 .i32) : IVec S256x1024 32 :=
  k0_pay6 (k0_pay5 (k0_pay3 (View.ld s (Rect.unit ![0, 0] S256x512.size inb_S256x7168_S256x512_0_0)) (View.ld w (Rect.unit ![0, 0] S512x1024.size inb_S7168x1024_S512x1024_0_0)) (View.ld s (Rect.unit ![0, 512] S256x512.size inb_S256x7168_S256x512_0_512)) (View.ld w (Rect.unit ![512, 0] S512x1024.size inb_S7168x1024_S512x1024_512_0)) (View.ld s (Rect.unit ![0, 1024] S256x512.size inb_S256x7168_S256x512_0_1024)) (View.ld w (Rect.unit ![1024, 0] S512x1024.size inb_S7168x1024_S512x1024_1024_0)) (View.ld s (Rect.unit ![0, 1536] S256x512.size inb_S256x7168_S256x512_0_1536)) (View.ld w (Rect.unit ![1536, 0] S512x1024.size inb_S7168x1024_S512x1024_1536_0)))
      (k0_pay4 (View.ld s (Rect.unit ![0, 2048] S256x512.size inb_S256x7168_S256x512_0_2048)) (View.ld w (Rect.unit ![2048, 0] S512x1024.size inb_S7168x1024_S512x1024_2048_0)))
      (View.ld s (Rect.unit ![0, 2560] S256x512.size inb_S256x7168_S256x512_0_2560)) (View.ld w (Rect.unit ![2560, 0] S512x1024.size inb_S7168x1024_S512x1024_2560_0)) (View.ld s (Rect.unit ![0, 3072] S256x512.size inb_S256x7168_S256x512_0_3072)) (View.ld w (Rect.unit ![3072, 0] S512x1024.size inb_S7168x1024_S512x1024_3072_0)) (View.ld s (Rect.unit ![0, 3584] S256x512.size inb_S256x7168_S256x512_0_3584)) (View.ld w (Rect.unit ![3584, 0] S512x1024.size inb_S7168x1024_S512x1024_3584_0)) (View.ld s (Rect.unit ![0, 4096] S256x512.size inb_S256x7168_S256x512_0_4096)) (View.ld w (Rect.unit ![4096, 0] S512x1024.size inb_S7168x1024_S512x1024_4096_0)) (View.ld s (Rect.unit ![0, 4608] S256x512.size inb_S256x7168_S256x512_0_4608)) (View.ld w (Rect.unit ![4608, 0] S512x1024.size inb_S7168x1024_S512x1024_4608_0)))
    (View.ld s (Rect.unit ![0, 5120] S256x512.size inb_S256x7168_S256x512_0_5120)) (View.ld w (Rect.unit ![5120, 0] S512x1024.size inb_S7168x1024_S512x1024_5120_0)) (View.ld s (Rect.unit ![0, 5632] S256x512.size inb_S256x7168_S256x512_0_5632)) (View.ld w (Rect.unit ![5632, 0] S512x1024.size inb_S7168x1024_S512x1024_5632_0)) (View.ld s (Rect.unit ![0, 6144] S256x512.size inb_S256x7168_S256x512_0_6144)) (View.ld w (Rect.unit ![6144, 0] S512x1024.size inb_S7168x1024_S512x1024_6144_0)) (View.ld s (Rect.unit ![0, 6656] S256x512.size inb_S256x7168_S256x512_0_6656)) (View.ld w (Rect.unit ![6656, 0] S512x1024.size inb_S7168x1024_S512x1024_6656_0)) b

/-- The output block: the accumulator block requantized by the multiplier row `m0`, the shift row `sh` and the output
    zero point `yz`. -/
def outBlock (s : Vec F S256x7168 .bf16) (w : Vec F S7168x1024 .i8) (b m0 sh : Vec F S1x1024 .i32) (yz : Elt F .i32) :
    Vec F S256x1024 .i8 :=
  k0_pay1 yz (k0_pay10 (accBlock s w b) (k0_pay7 m0) (k0_pay8 sh) (k0_pay9 m0) 16#32)

/-- The one word of a scalar window. -/
abbrev word (x : Vec F S1 .i32) : Elt F .i32 := x (Shape.Idx.first (s := S1) (by decide))

/-- The one element of a load of a whole scalar window. -/
abbrev load (x : Vec F S1 .i32) : Elt F .i32 :=
  View.ld x (Rect.unit (s := S1) ![0] S1.size inb_S1_S1_0) (Shape.Idx.first (by decide))

/-- Reading the one element of a load of a scalar window reads its one word. -/
theorem load_eq (x : Vec F S1 .i32) : load x = word x := congrFun (View.ld_unit_zero (S := S1) hz1 inb_S1_S1_0 x) _

/-- A load of any rectangle after one store of the whole view reads the stored payload there. -/
theorem readCov_ld {sig : RefSig} {κ : Kind} {sp : Space} {s : Shape} {e : EltTy} (v : View sig κ sp s e)
    {off : Fin s.rank → ℕ} (inb : ∀ a, off a + s.size a ≤ s.size a) (w : (Rect.unit off s.size inb).shape.Idx → Elt F e) (r : Rect s) :
    v.readCov (Val := Elt F) [⟨Rect.unit off s.size inb, w⟩] r.toLoadRect = View.ld (Val := Elt F) w r := by
  unfold View.readCov
  rw [View.readAt_eq_ld, View.read_writes_full]

/-- At a point after the first, the body leaves the output block computed from the scratch it found. -/
theorem out_B (c : Dev nD) (i : grid0.Coords) (arg1 : Memref sig .tc .smem S1 .i32) (harg1 : arg1.IsWhole) (arg2 : Memref sig .tc .smem S1 .i32) (harg2 : arg2.IsWhole) (arg3 : Memref sig .tc .vmem S256x7168 .i8) (harg3 : arg3.IsWhole) (arg4 : Memref sig .tc .vmem S7168x1024 .i8) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S256x1024 .i8) (harg8 : arg8.IsWhole) (arg9 : Memref sig .tc .vmem S256x7168 .bf16) (harg9 : arg9.IsWhole) (hc0 : ¬cond0_0 i)
    (x0 : Vec F S1 .i32) (x1 : Vec F S1 .i32) (x2 : Vec F S256x7168 .i8) (x3 : Vec F S7168x1024 .i8) (x4 : Vec F S1x1024 .i32) (x5 : Vec F S1x1024 .i32) (x6 : Vec F S1x1024 .i32) (xs0 : Vec F S256x7168 .bf16) :
    out0_B_7 c i arg1 harg1 arg2 harg2 arg3 harg3 arg4 harg4 arg5 harg5 arg6 harg6 arg7 harg7 arg8 harg8 arg9 harg9 hc0 x0 x1 x2 x3 x4 x5 x6 xs0 = outBlock xs0 x3 x4 x5 x6 (word x1) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, View.ld_unit_zero (S := S1x1024) hz]
  show outBlock xs0 x3 x4 x5 x6 (load x1) = _
  rw [load_eq]

/-- At the first point, the body leaves the output block computed from the scratch it has just stored. -/
theorem out_A (c : Dev nD) (i : grid0.Coords) (arg1 : Memref sig .tc .smem S1 .i32) (harg1 : arg1.IsWhole) (arg2 : Memref sig .tc .smem S1 .i32) (harg2 : arg2.IsWhole) (arg3 : Memref sig .tc .vmem S256x7168 .i8) (harg3 : arg3.IsWhole) (arg4 : Memref sig .tc .vmem S7168x1024 .i8) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S256x1024 .i8) (harg8 : arg8.IsWhole) (arg9 : Memref sig .tc .vmem S256x7168 .bf16) (harg9 : arg9.IsWhole) (hc0 : cond0_0 i)
    (x0 : Vec F S1 .i32) (x1 : Vec F S1 .i32) (x2 : Vec F S256x7168 .i8) (x3 : Vec F S7168x1024 .i8) (x4 : Vec F S1x1024 .i32) (x5 : Vec F S1x1024 .i32) (x6 : Vec F S1x1024 .i32) :
    out0_A_7 c i arg1 harg1 arg2 harg2 arg3 harg3 arg4 harg4 arg5 harg5 arg6 harg6 arg7 harg7 arg8 harg8 arg9 harg9 hc0 x0 x1 x2 x3 x4 x5 x6 = outBlock (k0_pay2 (word x0) x2) x3 x4 x5 x6 (word x1) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, View.ld_unit_zero (S := S1x1024) hz,
    View.ld_unit_zero (S := S256x7168) hz]
  simp only [readCov_ld (s := S256x7168)]
  show outBlock (k0_pay2 (load x0) x2) x3 x4 x5 x6 (load x1) = _
  rw [load_eq, load_eq]

/-- At the first point, the body leaves in the scratch the input less its zero point. -/
theorem sout_A (c : Dev nD) (i : grid0.Coords) (arg1 : Memref sig .tc .smem S1 .i32) (harg1 : arg1.IsWhole) (arg2 : Memref sig .tc .smem S1 .i32) (harg2 : arg2.IsWhole) (arg3 : Memref sig .tc .vmem S256x7168 .i8) (harg3 : arg3.IsWhole) (arg4 : Memref sig .tc .vmem S7168x1024 .i8) (harg4 : arg4.IsWhole) (arg5 : Memref sig .tc .vmem S1x1024 .i32) (harg5 : arg5.IsWhole) (arg6 : Memref sig .tc .vmem S1x1024 .i32) (harg6 : arg6.IsWhole) (arg7 : Memref sig .tc .vmem S1x1024 .i32) (harg7 : arg7.IsWhole) (arg8 : Memref sig .tc .vmem S256x1024 .i8) (harg8 : arg8.IsWhole) (arg9 : Memref sig .tc .vmem S256x7168 .bf16) (harg9 : arg9.IsWhole) (hc0 : cond0_0 i)
    (x0 : Vec F S1 .i32) (x1 : Vec F S1 .i32) (x2 : Vec F S256x7168 .i8) (x3 : Vec F S7168x1024 .i8) (x4 : Vec F S1x1024 .i32) (x5 : Vec F S1x1024 .i32) (x6 : Vec F S1x1024 .i32) :
    sout0_A_0 c i arg1 harg1 arg2 harg2 arg3 harg3 arg4 harg4 arg5 harg5 arg6 harg6 arg7 harg7 arg8 harg8 arg9 harg9 hc0 x0 x1 x2 x3 x4 x5 x6 = k0_pay2 (word x0) x2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, View.ld_unit_zero (S := S256x7168) hz]
  show k0_pay2 (load x0) x2 = _
  rw [load_eq]

end Cert.KernelIdeal.Block
-- ==== Proof.Points.lean ====
/- The kernel's output array after its run, block by block, and the input blocks each grid point sees, read off the
   arguments. -/
module

public import proofs.«01_k».proof.Proof.Block
public import Idealize.ShloMosaic.Lib.Pipeline.ValueKit
public import Idealize.ShloMosaic.Lib.Claim

@[expose] public section

noncomputable section

namespace Cert.KernelIdeal.Points

open Cert.KernelIdeal Cert.KernelIdeal.Gen Cert.KernelIdeal.Block Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The first grid point. -/
abbrev first : Fin cfg0.N := ⟨0, by decide⟩

/-- What the kernel keeps in its scratch: the input less its zero point, computed at the first grid point. -/
def scratch (c : Dev nD) : Vec F S256x7168 .bf16 := k0_pay2 (word (iblk m c 0 first)) (iblk m c 2 first)

/-- The scratch holds the same array after every grid point. -/
theorem outs_snd (c : Dev nD) (n : ℕ) (hn : n < cfg0.N) : (outsAt0 (F := F) m c n hn).2 = scratch m c := by
  induction n with
  | zero =>
    have e := congrArg Prod.snd (outsAt0_A m c ⟨0, hn⟩ (Nat.zero_mod _))
    dsimp only at e
    rw [sout_A] at e
    exact e
  | succ n ih =>
    have hN := lt_of_lt_of_eq hn (show cfg0.N = 18 from N_0)
    have e := congrArg Prod.snd (outsAt0_B m c ⟨n + 1, hn⟩ (by show ¬(n + 1) % 18 = 0; omega))
    dsimp only at e
    unfold sout0_B_0 at e
    exact e.trans (ih _)

/-- After a grid point the output block is computed from the scratch and from the blocks the point sees. -/
theorem outs_fst (c : Dev nD) (t : Fin cfg0.N) :
    (outsAt0 m c t.val t.isLt).1 = outBlock (scratch m c) (iblk m c 3 t) (iblk m c 4 t) (iblk m c 5 t) (iblk m c 6 t) (word (iblk m c 1 t)) := by
  have hN := lt_of_lt_of_eq t.isLt (show cfg0.N = 18 from N_0)
  by_cases h0 : t.val % 18 = 0
  · have ht : t = first := Fin.ext (by show t.val = 0; omega)
    have e := congrArg Prod.fst (outsAt0_A m c t h0)
    dsimp only at e
    rw [out_A] at e
    subst ht
    exact e
  · have e := congrArg Prod.fst (outsAt0_B m c t h0)
    dsimp only at e
    rw [out_B, outs_snd] at e
    exact e

set_option maxHeartbeats 1000000 in
/-- The weights a grid point sees: its 1024 columns of the weight matrix. -/
theorem weights (c : Dev nD) (t : Fin cfg0.N) (k : Fin 7168) (j : Fin 1024) (n : Fin 18432) (hn : n.val = t.val * 1024 + j.val) :
    iblk m c 3 t (ix2 k j) = m ((c : Thread nD τ).loc main_arg2) (ix2 k n) := by
  have idx : ∀ t : Fin cfg0.N, win0_3.index t = ![0, t.val] := by decide +kernel
  blk_ext [iblk, V, idx t]

set_option maxHeartbeats 1000000 in
/-- The bias a grid point sees: its 1024 entries of the bias. -/
theorem bias (c : Dev nD) (t : Fin cfg0.N) (j : Fin 1024) (n : Fin 18432) (hn : n.val = t.val * 1024 + j.val) :
    iblk m c 4 t (ix2 0 j) = m ((c : Thread nD τ).loc main_arg3) (ix1 n) := by
  have idx : ∀ t : Fin cfg0.N, win0_4.index t = ![0, t.val] := by decide +kernel
  have he : ((cfg0.win 4).blk t).view.emb (ix2 0 j) = ix2 0 n := by blk_ext [idx t]
  show V m c main_v3 (((cfg0.win 4).blk t).view.emb (ix2 0 j)) = _
  rw [he]
  entry_read
  refine shapeCast_apply (s := S18432) (t := S1x18432) _ _ _ _ ?_
  show ((⟨1, ![18432]⟩ : Shape).rowMajor (ix1 n)).val = ((⟨2, ![1, 18432]⟩ : Shape).rowMajor (ix2 0 n)).val
  rw [Shape.rowMajor_val_one, Shape.rowMajor_val_two]
  simp

set_option maxHeartbeats 1000000 in
/-- The multipliers a grid point sees: its 1024 entries of the multipliers. -/
theorem mults (c : Dev nD) (t : Fin cfg0.N) (j : Fin 1024) (n : Fin 18432) (hn : n.val = t.val * 1024 + j.val) :
    iblk m c 5 t (ix2 0 j) = m ((c : Thread nD τ).loc main_arg4) (ix1 n) := by
  have idx : ∀ t : Fin cfg0.N, win0_5.index t = ![0, t.val] := by decide +kernel
  have he : ((cfg0.win 5).blk t).view.emb (ix2 0 j) = ix2 0 n := by blk_ext [idx t]
  show V m c main_v4 (((cfg0.win 5).blk t).view.emb (ix2 0 j)) = _
  rw [he]
  entry_read
  refine shapeCast_apply (s := S18432) (t := S1x18432) _ _ _ _ ?_
  show ((⟨1, ![18432]⟩ : Shape).rowMajor (ix1 n)).val = ((⟨2, ![1, 18432]⟩ : Shape).rowMajor (ix2 0 n)).val
  rw [Shape.rowMajor_val_one, Shape.rowMajor_val_two]
  simp

set_option maxHeartbeats 1000000 in
/-- The shifts a grid point sees: its 1024 entries of the shifts. -/
theorem shifts (c : Dev nD) (t : Fin cfg0.N) (j : Fin 1024) (n : Fin 18432) (hn : n.val = t.val * 1024 + j.val) :
    iblk m c 6 t (ix2 0 j) = m ((c : Thread nD τ).loc main_arg5) (ix1 n) := by
  have idx : ∀ t : Fin cfg0.N, win0_6.index t = ![0, t.val] := by decide +kernel
  have he : ((cfg0.win 6).blk t).view.emb (ix2 0 j) = ix2 0 n := by blk_ext [idx t]
  show V m c main_v5 (((cfg0.win 6).blk t).view.emb (ix2 0 j)) = _
  rw [he]
  entry_read
  refine shapeCast_apply (s := S18432) (t := S1x18432) _ _ _ _ ?_
  show ((⟨1, ![18432]⟩ : Shape).rowMajor (ix1 n)).val = ((⟨2, ![1, 18432]⟩ : Shape).rowMajor (ix2 0 n)).val
  rw [Shape.rowMajor_val_one, Shape.rowMajor_val_two]
  simp

set_option maxHeartbeats 1000000 in
/-- The input zero point a grid point sees is the argument. -/
theorem inZero (c : Dev nD) (t : Fin cfg0.N) : word (iblk m c 0 t) = m ((c : Thread nD τ).loc main_arg1) ix0 := by
  show V m c main_v0 _ = _
  entry_read
  refine shapeCast_apply (s := S_) (t := S1) _ _ _ _ ?_
  have h1 : S1.numel = 1 := by decide
  have h2 : S_.numel = 1 := by decide
  exact (Nat.lt_one_iff.mp (lt_of_lt_of_eq (Fin.isLt _) h2)).trans (Nat.lt_one_iff.mp (lt_of_lt_of_eq (Fin.isLt _) h1)).symm

set_option maxHeartbeats 1000000 in
/-- The output zero point a grid point sees is the argument. -/
theorem outZero (c : Dev nD) (t : Fin cfg0.N) : word (iblk m c 1 t) = m ((c : Thread nD τ).loc main_arg6) ix0 := by
  show V m c main_v1 _ = _
  entry_read
  refine shapeCast_apply (s := S_) (t := S1) _ _ _ _ ?_
  have h1 : S1.numel = 1 := by decide
  have h2 : S_.numel = 1 := by decide
  exact (Nat.lt_one_iff.mp (lt_of_lt_of_eq (Fin.isLt _) h2)).trans (Nat.lt_one_iff.mp (lt_of_lt_of_eq (Fin.isLt _) h1)).symm

set_option maxHeartbeats 1000000 in
/-- The input a grid point sees is the whole argument, its two leading axes flattened into one. -/
theorem input (c : Dev nD) (t : Fin cfg0.N) (r : Fin 256) (k : Fin 7168) (a : Fin 2) (b : Fin 128) (hr : r.val = a.val * 128 + b.val) :
    iblk m c 2 t (ix2 r k) = m ((c : Thread nD τ).loc main_arg0) (ix3 a b k) := by
  have idx : ∀ t : Fin cfg0.N, win0_2.index t = ![0, 0] := by decide +kernel
  have he : ((cfg0.win 2).blk t).view.emb (ix2 r k) = ix2 r k := by blk_ext [idx t]
  show V m c main_v2 (((cfg0.win 2).blk t).view.emb (ix2 r k)) = _
  rw [he]
  entry_read
  refine shapeCast_apply (s := S2x128x7168) (t := S256x7168) _ _ _ _ ?_
  show ((⟨3, ![2, 128, 7168]⟩ : Shape).rowMajor (ix3 a b k)).val = ((⟨2, ![256, 7168]⟩ : Shape).rowMajor (ix2 r k)).val
  rw [Shape.rowMajor_val_three, Shape.rowMajor_val_two]
  show (a.val * 128 + b.val) * 7168 + k.val = r.val * 7168 + k.val
  rw [hr]

/-! ## The output array -/

/-- The grid point that writes the block an index of the output array lies in. -/
abbrev pt (i : S256x18432.Idx) : Fin cfg0.N :=
  ⟨(i 1).val / 1024, lt_of_lt_of_eq (by have : (i 1).val < 18432 := (i 1).isLt; omega) N_0.symm⟩

/-- The place of an index of the output array in its block. -/
abbrev place (i : S256x18432.Idx) : S256x1024.Idx :=
  ix2 (⟨(i 0).val, (i 0).isLt⟩ : Fin 256) (⟨(i 1).val % 1024, Nat.mod_lt _ (by decide)⟩ : Fin 1024)

/-- What the output array holds at the end: at each index, what the point of its block left at its place. -/
def final (c : Dev nD) : Buf (Elt F) ((c : Thread nD τ).loc main_v6) := fun i =>
  outBlock (scratch m c) (iblk m c 3 (pt i)) (iblk m c 4 (pt i)) (iblk m c 5 (pt i)) (iblk m c 6 (pt i)) (word (iblk m c 1 (pt i))) (place i)

set_option maxHeartbeats 1000000 in
/-- After the run the output array holds `final`. -/
theorem arrAt_eq (c : Dev nD) : (dats m 0 c).arrAt 7 cfg0.N = final m c := by
  have idx : ∀ t : Fin cfg0.N, win0_7.index t = ![0, t.val] := by decide +kernel
  refine (dats m 0 c).arrAt_eq_of_covers 7 _ (by decide +kernel) fun t hf y => ?_
  have hp : pt (((cfg0.win 7).blk t).view.emb y) = t := by
    apply Fin.ext
    have e : (((cfg0.win 7).blk t).view.emb y 1).val = t.val * 1024 + (y 1).val := by blk_simp [idx t]
    show (((cfg0.win 7).blk t).view.emb y 1).val / 1024 = t.val
    have : (y 1).val < 1024 := (y 1).isLt
    omega
  have hl : place (((cfg0.win 7).blk t).view.emb y) = y := by
    have e0 : (((cfg0.win 7).blk t).view.emb y 0).val = (y 0).val := by blk_simp [idx t]
    have e : (((cfg0.win 7).blk t).view.emb y 1).val = t.val * 1024 + (y 1).val := by blk_simp [idx t]
    have h0 : (y 0).val < 256 := (y 0).isLt
    have h1 : (y 1).val < 1024 := (y 1).isLt
    funext a
    apply Fin.ext
    match a with
    | ⟨0, _⟩ => exact e0
    | ⟨1, _⟩ => show (((cfg0.win 7).blk t).view.emb y 1).val % 1024 = (y 1).val; omega
  have e : (dats m 0 c).flushed 7 t = (cfg0.win 7).cut (grid0.coords t) ((outsAt0 m c t.val t.isLt).1) := by
    show (cfg0.win 7).cut (grid0.coords t) ((dats m 0 c).after 7 t) = _
    rw [after0_7]
  show (dats m 0 c).flushed 7 t y = _
  rw [e, outs_fst]
  unfold final
  rw [hp, hl]

end Cert.KernelIdeal.Points

end
-- ==== Proof.Run.lean ====
/- The kernel's run: its result is the output array `Points.final`, its leading axis split back in two. -/
module

public import proofs.«01_k».proof.Proof.Points

@[expose] public section

noncomputable section

namespace Cert.KernelIdeal.Points

open Cert.KernelIdeal Cert.KernelIdeal.Gen Cert.KernelIdeal.Block Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the host line after the kernel leaves in the result: the output array, reshaped. -/
theorem tail (c : Dev nD) :
    Pipeline.afterTail₀ cfgs (dats m) 0 (V0 m) [hostOps1] c main_v7
      = shapeCast S2x128x18432 (final m c) shapeCasts_S256x18432_S2x128x18432 := by
  unfold Pipeline.afterTail₀
  have e : Pipeline.withArrays (cfgs 0).spec c (V0 m c) (fun w => (dats m 0 c).arrAt w (cfgs 0).N) (Proc.devRef .tc main_v6) = final m c :=
    (Pipeline.withArrays_arr _ launch0.win.arr_inj c (V0 m c) _ 7).trans (arrAt_eq m c)
  generalize Pipeline.withArrays (cfgs 0).spec c (V0 m c) (fun w => (dats m 0 c).arrAt w (cfgs 0).N) = W at e ⊢
  show StableHlo.after hostOps1 W (Proc.devRef .tc main_v7) = _
  rw [← e]
  after_results
  rfl

/-- Every run of the kernel ends with the result holding the output array, reshaped, and the arguments unchanged. -/
theorem run : θ_run defs (onTc (τ := τ) (main (F := F))) ⟨m, fun _ => 0, ρ⟩ fun r => ∀ c : Dev nD,
      r.2.mem ((c : Thread nD τ).loc main_v7) = shapeCast S2x128x18432 (final m c) shapeCasts_S256x18432_S2x128x18432
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono
    (fun _ h c => ⟨((h.2 c).2 main_v7 (Pipeline.mem_restRefs_of main_v7 (by decide) (by decide))).trans (tail m c), h.1 c⟩)
    (θ_run_and (unchanged m ρ) (run_main m ρ))

end Cert.KernelIdeal.Points

end
-- ==== Proof.Words.lean ====
/-
  Words of 32 bits read as integers. The kernel and the reference are integer programs; these lemmas read each word
  operation they use as the integer operation it stands for, whenever the integer result fits the word.
-/
module

public import Idealize.ShloMosaic.PureOps.Float
public import Mathlib.Tactic.NormNum
public import Mathlib.Tactic.Ring
public import Mathlib.Tactic.Linarith
public import Mathlib.Algebra.Order.Ring.Abs

@[expose] public section

namespace Cert.Words

open Idealize.ShloMosaic

/-- A signed word lies between `-2^31` and `2^31 - 1`. -/
theorem toInt_range (x : BitVec 32) : -2147483648 ≤ x.toInt ∧ x.toInt < 2147483648 := by
  have h1 := BitVec.le_toInt x
  have h2 := BitVec.toInt_lt (x := x)
  norm_num at h1 h2
  exact ⟨h1, h2⟩

/-- The signed remainder of an integer that already fits the word is the integer. -/
theorem bmod_self (z : ℤ) (h1 : -2147483648 ≤ z) (h2 : z < 2147483648) : z.bmod (2 ^ 32) = z := by
  apply Int.bmod_eq_of_le <;> norm_num <;> omega

/-- Addition of words, read as integers, when the sum fits. -/
theorem toInt_add (x y : BitVec 32) (h1 : -2147483648 ≤ x.toInt + y.toInt) (h2 : x.toInt + y.toInt < 2147483648) :
    (IntOp.addi x y).toInt = x.toInt + y.toInt := by
  unfold IntOp.addi; rw [BitVec.toInt_add]; exact bmod_self _ h1 h2

/-- Subtraction of words, read as integers, when the difference fits. -/
theorem toInt_sub (x y : BitVec 32) (h1 : -2147483648 ≤ x.toInt - y.toInt) (h2 : x.toInt - y.toInt < 2147483648) :
    (IntOp.subi x y).toInt = x.toInt - y.toInt := by
  unfold IntOp.subi; rw [BitVec.toInt_sub]; exact bmod_self _ h1 h2

/-- Multiplication of words, read as integers, when the product fits. -/
theorem toInt_mul (x y : BitVec 32) (h1 : -2147483648 ≤ x.toInt * y.toInt) (h2 : x.toInt * y.toInt < 2147483648) :
    (IntOp.muli x y).toInt = x.toInt * y.toInt := by
  unfold IntOp.muli; rw [BitVec.toInt_mul]; exact bmod_self _ h1 h2

/-- An arithmetic shift right by fewer than 32 places is the floor division by the power of two, on either unit. -/
theorem toInt_shrsi (u : ArithUnit) (x y : BitVec 32) (h : y.toNat < 32) :
    (IntOp.shrsi u x y).toInt = x.toInt / 2 ^ y.toNat := by
  unfold IntOp.shrsi
  rw [if_pos h, BitVec.sshiftRight_eq', BitVec.toInt_sshiftRight, Int.shiftRight_eq_div_pow]
  norm_cast

/-- A word's signed reading, in terms of its unsigned one. -/
theorem toInt_cases (x : BitVec 32) :
    (x.toNat < 2147483648 ∧ x.toInt = x.toNat) ∨ (2147483648 ≤ x.toNat ∧ x.toInt = x.toNat - 4294967296) := by
  have h := BitVec.toInt_eq_toNat_cond x
  have := x.isLt
  norm_num at h
  split_ifs at h <;> omega

/-- Shifting left by 16 and arithmetically right by 16 keeps the low half of a word, sign-extended. -/
theorem toInt_low (u v : ArithUnit) (x : BitVec 32) :
    (IntOp.shrsi u (IntOp.shli v x 16#32) 16#32).toInt = (x.toInt + 32768) % 65536 - 32768 := by
  rw [toInt_shrsi _ _ _ (by decide)]
  have hs : (IntOp.shli v x 16#32).toNat = x.toNat * 65536 % 4294967296 := by
    unfold IntOp.shli
    rw [if_pos (by decide), BitVec.shiftLeft_eq', BitVec.toNat_shiftLeft, Nat.shiftLeft_eq]
    norm_num
  have h16 : (2 : ℤ) ^ (16#32).toNat = 65536 := by norm_num
  rw [h16]
  rcases toInt_cases x with ⟨_, h⟩ | ⟨_, h⟩ <;> rcases toInt_cases (IntOp.shli v x 16#32) with ⟨_, h'⟩ | ⟨_, h'⟩ <;>
    rw [h, h'] <;> omega

/-- A product of two integers of bounded size is of bounded size. -/
theorem mul_bound (x y A B : ℤ) (hA : 0 ≤ A) (hx1 : -A ≤ x) (hx2 : x ≤ A) (hy1 : -B ≤ y) (hy2 : y ≤ B) :
    -(A * B) ≤ x * y ∧ x * y ≤ A * B := by
  have h := mul_le_mul (abs_le.mpr ⟨hx1, hx2⟩) (abs_le.mpr ⟨hy1, hy2⟩) (abs_nonneg y) hA
  rw [← abs_mul] at h
  exact abs_le.mp h

/-- A product and a sum of words, read as integers, when the result fits: the product alone may wrap. -/
theorem toInt_mul_add (x y z : BitVec 32) (h1 : -2147483648 ≤ x.toInt * y.toInt + z.toInt)
    (h2 : x.toInt * y.toInt + z.toInt < 2147483648) :
    (IntOp.addi (IntOp.muli x y) z).toInt = x.toInt * y.toInt + z.toInt := by
  unfold IntOp.addi IntOp.muli
  rw [BitVec.toInt_add, BitVec.toInt_mul, Int.bmod_add_bmod]
  exact bmod_self _ h1 h2

/-- A floor division by a positive divisor keeps an integer between two bounds around zero that it already keeps. -/
theorem div_bound (x p A B : ℤ) (hA : 0 ≤ A) (hB : 0 ≤ B) (hp : 1 ≤ p) (h1 : -A ≤ x) (h2 : x ≤ B) : -A ≤ x / p ∧ x / p ≤ B := by
  constructor
  · rw [Int.le_ediv_iff_mul_le (by omega)]; nlinarith
  · have : x / p < B + 1 := by rw [Int.ediv_lt_iff_lt_mul (by omega)]; nlinarith
    omega

/-- The product of a signed word and a word that is not negative, rounded and divided by `2^31`, fits a word. -/
theorem high_range (a m : ℤ) (ha1 : -2147483648 ≤ a) (ha2 : a < 2147483648) (hm1 : 0 ≤ m) (hm2 : m < 2147483648) :
    -2147483647 ≤ (a * m + 1073741824) / 2147483648 ∧ (a * m + 1073741824) / 2147483648 ≤ 2147483646 := by
  have l : -2147483648 * 2147483647 ≤ a * m := by nlinarith
  have u : a * m ≤ 2147483647 * 2147483647 := by nlinarith
  omega

end Cert.Words
-- ==== Proof.RequantKernel.lean ====
/-
  The kernel's requantization of one accumulator word, read as integer arithmetic. The kernel splits the accumulator
  and the multiplier into a signed low half and a rounded high half of 16 bits each, so that every product fits a word;
  what it computes is the floor of `(a * m + 2^30) / 2^31`, and then a rounding shift.
-/
module

public import proofs.«01_k».proof.Proof.Words

@[expose] public section

namespace Cert.RequantKernel

open Idealize.ShloMosaic Cert.Words

/-- The rounded high half of a word, as the kernel computes it: `((v >> 15) + 1) >> 1`. -/
def high (v : BitVec 32) : BitVec 32 := IntOp.shrsi .vector (IntOp.addi (IntOp.shrsi .vector v 15#32) 1#32) 1#32

/-- The signed low half of a word, as the kernel computes it: `(v << 16) >> 16`. -/
def low (v : BitVec 32) : BitVec 32 := IntOp.shrsi .vector (IntOp.shli .vector v 16#32) 16#32

/-- The kernel's doubling high multiplication of the accumulator `a` by the multiplier `m`. -/
def mulHigh (a m : BitVec 32) : BitVec 32 :=
  IntOp.addi (IntOp.muli (high a) (IntOp.addi (high m) (high m)))
    (IntOp.shrsi .vector
      (IntOp.addi (IntOp.addi (IntOp.muli (high a) (low m)) (IntOp.muli (low a) (high m)))
        (IntOp.addi (IntOp.shrsi .vector (IntOp.muli (low a) (low m)) 16#32) 16384#32)) 15#32)

/-- The kernel's rounding shift of `h` right by `s`, before the last halving. -/
def shiftUp (h s : BitVec 32) : BitVec 32 :=
  IntOp.addi (IntOp.shrsi .vector (IntOp.addi h (IntOp.shrsi .vector h 31#32)) (IntOp.subi s 1#32)) 1#32

/-- The kernel's rounding shift of `h` right by `s`. -/
def round (h s : BitVec 32) : BitVec 32 := IntOp.shrsi .vector (shiftUp h s) 1#32

/-- The rounded high half, as an integer. -/
theorem toInt_high (v : BitVec 32) : (high v).toInt = (v.toInt / 32768 + 1) / 2 := by
  have hv := toInt_range v
  unfold high
  have h15 : (IntOp.shrsi .vector v 15#32).toInt = v.toInt / 32768 := by
    rw [toInt_shrsi _ _ _ (by decide)]; norm_num
  have h1 : (1#32).toInt = 1 := by decide
  rw [toInt_shrsi _ _ _ (by decide), toInt_add _ _ (by rw [h15, h1]; omega) (by rw [h15, h1]; omega), h15, h1]
  norm_num

/-- The signed low half, as an integer. -/
theorem toInt_lowHalf (v : BitVec 32) : (low v).toInt = (v.toInt + 32768) % 65536 - 32768 := toInt_low _ _ v

/-- The kernel's doubling high multiplication is the floor of `(a * m + 2^30) / 2^31`, for any accumulator
    and a multiplier that is not negative. The product of the high halves may wrap; the sum it goes into does not. -/
theorem toInt_mulHigh (a m : BitVec 32) (hm : 0 ≤ m.toInt) :
    (mulHigh a m).toInt = (a.toInt * m.toInt + 1073741824) / 2147483648 := by
  have har := toInt_range a
  have hmr := toInt_range m
  have hr := high_range a.toInt m.toInt har.1 har.2 hm hmr.2
  have eah := toInt_high a
  have emh := toInt_high m
  have eal := toInt_lowHalf a
  have eml := toInt_lowHalf m
  unfold mulHigh
  generalize high a = ah at *
  generalize high m = mh at *
  generalize low a = al at *
  generalize low m = ml at *
  have hah : -32768 ≤ ah.toInt ∧ ah.toInt ≤ 32768 := by omega
  have hmh : 0 ≤ mh.toInt ∧ mh.toInt ≤ 32768 := by omega
  have hal : -32768 ≤ al.toInt ∧ al.toInt ≤ 32767 := by omega
  have hml : -32768 ≤ ml.toInt ∧ ml.toInt ≤ 32767 := by omega
  have ea : a.toInt = ah.toInt * 65536 + al.toInt := by omega
  have em : m.toInt = mh.toInt * 65536 + ml.toInt := by omega
  have b1 := mul_bound ah.toInt ml.toInt 32768 32768 (by norm_num) hah.1 hah.2 hml.1 (by omega)
  have b2 := mul_bound al.toInt mh.toInt 32768 32768 (by norm_num) hal.1 (by omega) (by omega) hmh.2
  have b3 := mul_bound al.toInt ml.toInt 32768 32768 (by norm_num) hal.1 (by omega) hml.1 (by omega)
  norm_num at b1 b2 b3
  -- the middle sum stays below 2^31: its terms are not at their largest together
  have b5 : al.toInt * mh.toInt + al.toInt * ml.toInt / 65536 ≤ 1073725439 ∧ al.toInt * mh.toInt ≤ 1073709056 := by
    rcases le_or_gt 0 al.toInt with h | h
    · have u1 := mul_bound al.toInt mh.toInt 32767 32768 (by norm_num) (by omega) hal.2 (by omega) hmh.2
      have u2 := mul_bound al.toInt ml.toInt 32767 32768 (by norm_num) (by omega) hal.2 hml.1 (by omega)
      norm_num at u1 u2
      omega
    · have u1 : al.toInt * mh.toInt ≤ 0 := mul_nonpos_of_nonpos_of_nonneg (le_of_lt h) hmh.1
      omega
  have e1 := toInt_mul ah ml (by omega) (by omega)
  have e2 := toInt_mul al mh (by omega) (by omega)
  have e3 := toInt_mul al ml (by omega) (by omega)
  have e4 := toInt_add mh mh (by omega) (by omega)
  have e4' : ah.toInt * (mh.toInt + mh.toInt) = 2 * (ah.toInt * mh.toInt) := by ring
  have e6 : (IntOp.shrsi .vector (IntOp.muli al ml) 16#32).toInt = al.toInt * ml.toInt / 65536 := by
    rw [toInt_shrsi _ _ _ (by decide), e3]; norm_num
  have hc : (16384#32).toInt = 16384 := by decide
  have e7 := toInt_add (IntOp.shrsi .vector (IntOp.muli al ml) 16#32) 16384#32 (by rw [e6, hc]; omega) (by rw [e6, hc]; omega)
  rw [e6, hc] at e7
  have e8 := toInt_add (IntOp.muli ah ml) (IntOp.muli al mh) (by rw [e1, e2]; omega) (by rw [e1, e2]; omega)
  rw [e1, e2] at e8
  have e9 := toInt_add (IntOp.addi (IntOp.muli ah ml) (IntOp.muli al mh))
    (IntOp.addi (IntOp.shrsi .vector (IntOp.muli al ml) 16#32) 16384#32) (by rw [e7, e8]; omega) (by rw [e7, e8]; omega)
  rw [e7, e8] at e9
  generalize IntOp.addi (IntOp.addi (IntOp.muli ah ml) (IntOp.muli al mh))
    (IntOp.addi (IntOp.shrsi .vector (IntOp.muli al ml) 16#32) 16384#32) = mid at *
  have e10 : (IntOp.shrsi .vector mid 15#32).toInt = mid.toInt / 32768 := by
    rw [toInt_shrsi _ _ _ (by decide)]; norm_num
  have key : a.toInt * m.toInt = (ah.toInt * mh.toInt) * 4294967296 + (ah.toInt * ml.toInt + al.toInt * mh.toInt) * 65536
      + al.toInt * ml.toInt := by rw [ea, em]; ring
  have e11 : ah.toInt * (IntOp.addi mh mh).toInt + (IntOp.shrsi .vector mid 15#32).toInt
      = (a.toInt * m.toInt + 1073741824) / 2147483648 := by
    rw [e4, e4', e10, key]
    omega
  rw [toInt_mul_add _ _ _ (by omega) (by omega), e11]

/-- The kernel's rounding shift, as an integer: with `t = h` for `h ≥ 0` and `t = h - 1` below, and `s` from 1 to 31,
    it is the floor of half of `floor(t / 2^(s-1)) + 1`. -/
theorem toInt_round (h s : BitVec 32) (h1 : -2147483647 ≤ h.toInt) (h2 : h.toInt ≤ 2147483646) (s1 : 1 ≤ s.toInt) (s2 : s.toInt ≤ 31) :
    (round h s).toInt = ((h.toInt - (if h.toInt < 0 then 1 else 0)) / 2 ^ (s.toNat - 1) + 1) / 2 := by
  have hs : s.toInt = s.toNat := by rcases toInt_cases s with ⟨_, e⟩ | ⟨_, e⟩ <;> omega
  have hc1 : (1#32).toInt = 1 := by decide
  have es := toInt_sub s 1#32 (by rw [hc1]; omega) (by rw [hc1]; omega)
  rw [hc1] at es
  have hsn : (IntOp.subi s 1#32).toNat = s.toNat - 1 := by
    rcases toInt_cases (IntOp.subi s 1#32) with ⟨_, e⟩ | ⟨_, e⟩ <;> omega
  have e31 : (IntOp.shrsi .vector h 31#32).toInt = -(if h.toInt < 0 then 1 else 0) := by
    rw [toInt_shrsi _ _ _ (by decide)]; norm_num; split_ifs <;> omega
  have et := toInt_add h (IntOp.shrsi .vector h 31#32) (by rw [e31]; split_ifs <;> omega) (by rw [e31]; split_ifs <;> omega)
  rw [e31, ← sub_eq_add_neg] at et
  have ev : (IntOp.shrsi .vector (IntOp.addi h (IntOp.shrsi .vector h 31#32)) (IntOp.subi s 1#32)).toInt
      = (h.toInt - (if h.toInt < 0 then 1 else 0)) / 2 ^ (s.toNat - 1) := by
    rw [toInt_shrsi _ _ _ (by omega), et, hsn]
  unfold round shiftUp
  generalize IntOp.shrsi .vector (IntOp.addi h (IntOp.shrsi .vector h 31#32)) (IntOp.subi s 1#32) = v at *
  have hp : (1 : ℤ) ≤ 2 ^ (s.toNat - 1) := one_le_pow₀ (by norm_num)
  have bv := div_bound (h.toInt - (if h.toInt < 0 then 1 else 0)) (2 ^ (s.toNat - 1)) 2147483648 2147483646 (by norm_num) (by norm_num) hp
    (by split_ifs <;> omega) (by split_ifs <;> omega)
  rw [← ev] at bv ⊢
  rw [toInt_shrsi _ _ _ (by decide), toInt_add _ _ (by rw [hc1]; omega) (by rw [hc1]; omega), hc1]
  norm_num

end Cert.RequantKernel
-- ==== Proof.Dot.lean ====
/- The kernel's output block read at one element, over the real numbers: the accumulator word is the product sum
   modulo 2^32 plus the bias, and the rest is the requantization of that word. -/
module

public import proofs.«01_k».proof.Proof.Block
public import proofs.«01_k».proof.Proof.RequantKernel
public import Idealize.ShloMosaic.Lib.MatmulPlain
public import Idealize.ShloMosaic.PureOps.Ideal.Laws

@[expose] public section

noncomputable section

namespace Cert.KernelIdeal.Dot

open Cert.KernelIdeal Cert.KernelIdeal.Gen Cert.KernelIdeal.Block Idealize.ShloMosaic
open Idealize.ShloMosaic.ValueIdx

/-- Converting a real number that is an integer of 32 bits back to a word gives that integer. -/
theorem fptosi_int (n : ℤ) (h1 : -2147483648 ≤ n) (h2 : n ≤ 2147483647) :
    Ideal.fptosi 32 (((n : ℝ)) : EReal) = BitVec.ofInt 32 n := by
  unfold Ideal.fptosi
  rw [Ideal.toIntClamped_coe]
  congr 1
  rw [Int.floor_intCast, Int.ceil_intCast, ite_self]
  norm_num
  omega

/-- A finite sum of integers, as real numbers, is the integer sum. -/
theorem coe_sum {n : ℕ} (f : Fin n → ℤ) : (∑ k, (((f k : ℤ) : ℝ) : EReal)) = (((∑ k, f k : ℤ) : ℝ) : EReal) := by
  induction n with
  | zero => simp
  | succ n ih => rw [Fin.sum_univ_succ, Fin.sum_univ_succ, ih, Int.cast_add, EReal.coe_add]

/-- A sum of `n` integers, each between `L` and `U`, lies between `n * L` and `n * U`. -/
theorem sum_bound {n : ℕ} (f : Fin n → ℤ) (L U : ℤ) (hf : ∀ k, L ≤ f k ∧ f k ≤ U) : n * L ≤ ∑ k, f k ∧ ∑ k, f k ≤ n * U := by
  induction n with
  | zero => simp
  | succ n ih =>
    have h := ih (fun k => f k.succ) (fun k => hf k.succ)
    have h0 := hf 0
    rw [Fin.sum_univ_succ]
    push_cast
    constructor <;> linarith

/-- A centred input times a weight. -/
theorem term_bound (x y : ℤ) (hx1 : -32767 ≤ x) (hx2 : x ≤ 32768) (hy1 : -128 ≤ y) (hy2 : y < 128) :
    -4194304 ≤ x * y ∧ x * y ≤ 4194176 := by
  rcases le_or_gt 0 y with h | h
  · constructor <;> nlinarith
  · constructor <;> nlinarith

/-- One chunk of the product: the matrix product of 512 columns of the scratch by 512 rows of the weights, as words. -/
def chunk (x : FVec Ideal S256x512 .bf16) (y : Vec Ideal S512x1024 .i8) : IVec S256x1024 32 :=
  fptosi 32 (matmul (F := Ideal) dot_S256x512_S512x1024_S256x1024_1_0_0_1_n_n none x (sitofp (F := Ideal) .bf16 y) (constant S256x1024 .f32 0x00000000#32))

/-- A chunk whose left operand holds integers from -32767 to 32768 is the exact integer sum, as a word. -/
theorem chunk_apply (x : FVec Ideal S256x512 .bf16) (y : Vec Ideal S512x1024 .i8) (r : Fin 256) (c : Fin 1024) (A : Fin 512 → ℤ)
    (hx : ∀ k, x (ix2 r k) = (((A k : ℤ) : ℝ) : EReal)) (hA : ∀ k, -32767 ≤ A k ∧ A k ≤ 32768) :
    chunk x y (ix2 r c) = BitVec.ofInt 32 (∑ k, A k * (y (ix2 k c) : BitVec 8).toInt) := by
  have hb : ∀ k, -4194304 ≤ A k * (y (ix2 k c) : BitVec 8).toInt ∧ A k * (y (ix2 k c) : BitVec 8).toInt ≤ 4194176 := fun k => by
    have hy1 := BitVec.le_toInt (y (ix2 k c) : BitVec 8)
    have hy2 := BitVec.toInt_lt (x := (y (ix2 k c) : BitVec 8))
    norm_num at hy1 hy2
    exact term_bound _ _ (hA k).1 (hA k).2 hy1 hy2
  have hs := sum_bound _ (-4194304) 4194176 hb
  norm_num at hs
  have e : FloatOps.matmul (F := Ideal) (DotDims.plain 256 512 1024) none x (sitofp (F := Ideal) .bf16 y) (constant S256x1024 .f32 0x00000000#32) (ix2 r c)
      = (((∑ k, A k * (y (ix2 k c) : BitVec 8).toInt : ℤ) : ℝ) : EReal) := by
    rw [Ideal.matmul_plain_apply]
    show Ideal.ofBits .f32 0x00000000#32 + _ = _
    rw [Ideal.ofBits_zero_f32, zero_add, ← coe_sum]
    refine Finset.sum_congr rfl fun k _ => ?_
    rw [hx k, Int.cast_mul, EReal.coe_mul]
    rfl
  show Ideal.fptosi 32 (FloatOps.matmul (F := Ideal) (DotDims.plain 256 512 1024) none x (sitofp (F := Ideal) .bf16 y) (constant S256x1024 .f32 0x00000000#32) (ix2 r c)) = _
  rw [e]
  exact fptosi_int _ (by omega) (by omega)

/-- Reading a row vector spread over the rows reads its entry. -/
theorem spread (x : IVec S1x1024 32) (r : Fin 256) (c : Fin 1024) :
    broadcastTo S256x1024 x broadcasts_S1x1024_S256x1024 (ix2 r c) = x (ix2 0 c) :=
  broadcastTo_apply x _ _ _ fun a => by
    match a with
    | ⟨0, _⟩ => rfl
    | ⟨1, _⟩ => rfl

/-- The part of the scratch the chunk starting at `o` reads. -/
theorem ld_left (s : Vec Ideal S256x7168 .bf16) (o : ℕ) (inb : ∀ a, (![0, o] : Fin 2 → ℕ) a + S256x512.size a ≤ S256x7168.size a)
    (r : Fin 256) (k : Fin 512) (h : o + k.val < 7168) :
    View.ld s (Rect.unit (s := S256x7168) ![0, o] S256x512.size inb) (ix2 r k) = s (ix2 r ⟨o + k.val, h⟩) := by
  show s _ = s _
  congr 1
  funext a
  apply Fin.ext
  match a with
  | ⟨0, _⟩ => show 0 + 1 * r.val = r.val; omega
  | ⟨1, _⟩ => show o + 1 * k.val = o + k.val; omega

/-- The part of the weights the chunk starting at `o` reads. -/
theorem ld_right (w : Vec Ideal S7168x1024 .i8) (o : ℕ) (inb : ∀ a, (![o, 0] : Fin 2 → ℕ) a + S512x1024.size a ≤ S7168x1024.size a)
    (k : Fin 512) (c : Fin 1024) (h : o + k.val < 7168) :
    View.ld w (Rect.unit (s := S7168x1024) ![o, 0] S512x1024.size inb) (ix2 k c) = w (ix2 ⟨o + k.val, h⟩ c) := by
  show w _ = w _
  congr 1
  funext a
  apply Fin.ext
  match a with
  | ⟨0, _⟩ => show o + 1 * k.val = o + k.val; omega
  | ⟨1, _⟩ => show 0 + 1 * c.val = c.val; omega

/-- The chunk of a row starting at `o`, as a word. -/
theorem chunk_ld (s : Vec Ideal S256x7168 .bf16) (w : Vec Ideal S7168x1024 .i8) (r : Fin 256) (c : Fin 1024) (A : Fin 7168 → ℤ)
    (hs : ∀ k, s (ix2 r k) = (((A k : ℤ) : ℝ) : EReal)) (hA : ∀ k, -32767 ≤ A k ∧ A k ≤ 32768) (o : ℕ) (ho : o + 512 ≤ 7168)
    (inb : ∀ a, (![0, o] : Fin 2 → ℕ) a + S256x512.size a ≤ S256x7168.size a)
    (inb' : ∀ a, (![o, 0] : Fin 2 → ℕ) a + S512x1024.size a ≤ S7168x1024.size a) :
    chunk (View.ld s (Rect.unit (s := S256x7168) ![0, o] S256x512.size inb)) (View.ld w (Rect.unit (s := S7168x1024) ![o, 0] S512x1024.size inb')) (ix2 r c)
      = BitVec.ofInt 32 (∑ k : Fin 512, A ⟨o + k.val, by omega⟩ * (w (ix2 ⟨o + k.val, by omega⟩ c) : BitVec 8).toInt) := by
  rw [chunk_apply _ _ r c (fun k => A ⟨o + k.val, by omega⟩) (fun k => by rw [ld_left s o inb r k (by omega), hs]) (fun k => hA _)]
  refine congrArg _ (Finset.sum_congr rfl fun k _ => ?_)
  rw [ld_right w o inb' k c (by omega)]

/-- A sum over 7168 terms is the sum of its 14 runs of 512. -/
theorem sum_split (f : Fin 7168 → ℤ) :
    ∑ k, f k = ∑ q : Fin 14, ∑ k : Fin 512, f ⟨512 * q.val + k.val, by omega⟩ := by
  rw [← Fintype.sum_prod_type' (fun (q : Fin 14) (k : Fin 512) => f ⟨512 * q.val + k.val, by omega⟩)]
  refine (Fintype.sum_equiv (finProdFinEquiv (m := 14) (n := 512)) _ _ fun p => ?_).symm
  refine congrArg f (Fin.ext ?_)
  show 512 * p.1.val + p.2.val = p.2.val + 512 * p.1.val
  omega

/-- A sum of 14 terms, written out. -/
theorem sum14 (g : Fin 14 → ℤ) :
    ∑ q, g q = g 0 + g 1 + g 2 + g 3 + g 4 + g 5 + g 6 + g 7 + g 8 + g 9 + g 10 + g 11 + g 12 + g 13 := by
  simp only [Fin.sum_univ_castSucc, Fin.sum_univ_zero, zero_add]
  rfl

theorem pay3 (a c e g : FVec Ideal S256x512 .bf16) (b d f h : Vec Ideal S512x1024 .i8) :
    k0_pay3 a b c d e f g h = addi (addi (addi (chunk a b) (chunk c d)) (chunk e f)) (chunk g h) := rfl

theorem pay4 (a : FVec Ideal S256x512 .bf16) (b : Vec Ideal S512x1024 .i8) : k0_pay4 a b = chunk a b := rfl

theorem pay5 (p q : IVec S256x1024 32) (a c e g i : FVec Ideal S256x512 .bf16) (b d f h j : Vec Ideal S512x1024 .i8) :
    k0_pay5 p q a b c d e f g h i j
      = addi (addi (addi (addi (addi (addi p q) (chunk a b)) (chunk c d)) (chunk e f)) (chunk g h)) (chunk i j) := rfl

theorem pay6 (p : IVec S256x1024 32) (a c e g : FVec Ideal S256x512 .bf16) (b d f h : Vec Ideal S512x1024 .i8) (z : Vec Ideal S1x1024 .i32) :
    k0_pay6 p a b c d e f g h z
      = addi (addi (addi (addi (addi p (chunk a b)) (chunk c d)) (chunk e f)) (chunk g h))
          (broadcastTo S256x1024 (shapeCast S1x1024 z shapeCasts_S1x1024_S1x1024) broadcasts_S1x1024_S256x1024) := rfl

theorem addi_at (x y : IVec S256x1024 32) (i : S256x1024.Idx) : addi x y i = x i + y i := rfl

/-- The accumulator block is the sum of its 14 chunks and of the bias: the product sum modulo 2^32, plus the bias. -/
theorem acc_eq (s : Vec Ideal S256x7168 .bf16) (w : Vec Ideal S7168x1024 .i8) (b : Vec Ideal S1x1024 .i32) (r : Fin 256) (c : Fin 1024)
    (A : Fin 7168 → ℤ) (hs : ∀ k, s (ix2 r k) = (((A k : ℤ) : ℝ) : EReal)) (hA : ∀ k, -32767 ≤ A k ∧ A k ≤ 32768) :
    accBlock s w b (ix2 r c)
      = BitVec.ofInt 32 (∑ k : Fin 7168, A k * (w (ix2 k c) : BitVec 8).toInt) + (b (ix2 0 c) : BitVec 32) := by
  have h := fun o ho inb inb' => chunk_ld s w r c A hs hA o ho inb inb'
  unfold accBlock
  rw [pay6, pay5, pay3, pay4]
  simp only [addi_at]
  rw [spread, shapeCast_self]
  rw [h 0 (by norm_num) _ _, h 512 (by norm_num) _ _, h 1024 (by norm_num) _ _, h 1536 (by norm_num) _ _, h 2048 (by norm_num) _ _, h 2560 (by norm_num) _ _, h 3072 (by norm_num) _ _, h 3584 (by norm_num) _ _, h 4096 (by norm_num) _ _, h 4608 (by norm_num) _ _, h 5120 (by norm_num) _ _, h 5632 (by norm_num) _ _, h 6144 (by norm_num) _ _, h 6656 (by norm_num) _ _]
  rw [sum_split, sum14]
  simp only [BitVec.ofInt_add]
  simp only [BitVec.add_assoc]
  rfl

/-- A row vector spread over the rows. -/
theorem spread_fun (x : IVec S1x1024 32) :
    broadcastTo S256x1024 x broadcasts_S1x1024_S256x1024 = fun i => x (ix2 0 ⟨(i 1).val, (i 1).isLt⟩) := by
  funext i
  have hi : i = ix2 ⟨(i 0).val, (i 0).isLt⟩ ⟨(i 1).val, (i 1).isLt⟩ := by
    funext a
    match a with
    | ⟨0, _⟩ => rfl
    | ⟨1, _⟩ => rfl
  conv_lhs => rw [hi]
  exact spread x _ _

/-- The output block at one element: the accumulator word requantized, offset, clamped to eight bits. -/
theorem out_eq (s : Vec Ideal S256x7168 .bf16) (w : Vec Ideal S7168x1024 .i8) (b m0 sh : Vec Ideal S1x1024 .i32) (yz : BitVec 32)
    (r : Fin 256) (c : Fin 1024) :
    outBlock s w b m0 sh yz (ix2 r c) =
      (IntOp.minsi 127#32 (IntOp.maxsi 4294967168#32 (IntOp.addi
        (RequantKernel.round (RequantKernel.mulHigh (accBlock s w b (ix2 r c)) (m0 (ix2 0 c))) (sh (ix2 0 c))) yz))).setWidth 8 := by
  unfold outBlock
  generalize accBlock s w b = acc
  simp only [k0_pay1, k0_pay7, k0_pay8, k0_pay9, k0_pay10, shapeCast_self, spread_fun]
  rfl

end Cert.KernelIdeal.Dot

end
-- ==== Proof.RequantReference.lean ====
/-
  The reference's requantization of one accumulator word, read as integer arithmetic. The reference multiplies the
  absolute value of the accumulator by the multiplier as unsigned 64-bit product in two words, adds a rounding nudge,
  takes the bits from 31 up, puts the sign back, and then shifts right with rounding to nearest, ties away from zero.
-/
module

public import proofs.«01_k».proof.Proof.Words

@[expose] public section

namespace Cert.RequantReference

open Idealize.ShloMosaic Cert.Words

/-- The truth value of a comparison, widened to a word. -/
def flag (b : BitVec 1) : BitVec 32 := b.setWidth 32

/-- The low word of the unsigned product of `x` and `y` -/
def ll (x y : BitVec 32) : BitVec 32 := IntOp.muli (IntOp.andi x 65535#32) (IntOp.andi y 65535#32)

/-- The sum of the two middle products of `x` and `y`. -/
def mid (x y : BitVec 32) : BitVec 32 :=
  IntOp.addi (IntOp.muli (IntOp.shrui .host x 16#32) (IntOp.andi y 65535#32))
    (IntOp.muli (IntOp.andi x 65535#32) (IntOp.shrui .host y 16#32))

/-- The low word of the product. -/
def lo (x y : BitVec 32) : BitVec 32 := IntOp.addi (ll x y) (IntOp.shli .host (mid x y) 16#32)

/-- The high word of the product. -/
def hi (x y : BitVec 32) : BitVec 32 :=
  IntOp.addi (IntOp.addi (IntOp.muli (IntOp.shrui .host x 16#32) (IntOp.shrui .host y 16#32))
    (IntOp.shrui .host (mid x y) 16#32)) (flag (IntOp.cmpi .ult (lo x y) (ll x y)))

/-- The low word after the nudge `n`. -/
def lo2 (x y n : BitVec 32) : BitVec 32 := IntOp.addi (lo x y) n

/-- The bits of the nudged product from bit 31 up. -/
def top (x y n : BitVec 32) : BitVec 32 :=
  IntOp.ori (IntOp.shli .host (IntOp.addi (hi x y) (flag (IntOp.cmpi .ult (lo2 x y n) (lo x y)))) 1#32)
    (IntOp.shrui .host (lo2 x y n) 31#32)

/-- The reference's doubling high multiplication of the accumulator `a` by the multiplier `m`. -/
def mulHigh (a m : BitVec 32) : BitVec 32 :=
  Scalar.select (IntOp.cmpi .slt a 0#32)
    (-(top (IntOp.absi a) m (IntOp.subi 1073741824#32 (flag (IntOp.cmpi .slt a 0#32)))))
    (top (IntOp.absi a) m (IntOp.subi 1073741824#32 (flag (IntOp.cmpi .slt a 0#32))))

/-- The mask of the bits shifted out. -/
def mask (s : BitVec 32) : BitVec 32 := IntOp.subi (IntOp.shli .host 1#32 s) 1#32

/-- The reference's rounding shift of `h` right by `s`. -/
def round (h s : BitVec 32) : BitVec 32 :=
  IntOp.addi (IntOp.shrsi .host h s)
    (flag (IntOp.cmpi .sgt (IntOp.andi h (mask s))
      (IntOp.addi (IntOp.shrsi .host (mask s) 1#32) (flag (IntOp.cmpi .slt h 0#32)))))

/-- A widened truth value is 1 or 0. -/
theorem toNat_flag (b : Bool) : (flag (BitVec.ofBool b)).toNat = if b then 1 else 0 := by
  cases b <;> rfl

/-- A widened truth value is 1 or 0, as a signed integer. -/
theorem toInt_flag (b : Bool) : (flag (BitVec.ofBool b)).toInt = if b then 1 else 0 := by
  cases b <;> rfl

/-- The low 16 bits of a word. -/
theorem toNat_and (x : BitVec 32) : (IntOp.andi x 65535#32).toNat = x.toNat % 65536 := by
  unfold IntOp.andi
  rw [BitVec.toNat_and]
  exact Nat.and_two_pow_sub_one_eq_mod x.toNat 16

/-- A logical shift right by fewer than 32 places. -/
theorem toNat_shrui (x : BitVec 32) (y : BitVec 32) (h : y.toNat < 32) :
    (IntOp.shrui .host x y).toNat = x.toNat / 2 ^ y.toNat := by
  unfold IntOp.shrui
  rw [if_pos h, BitVec.ushiftRight_eq', BitVec.toNat_ushiftRight, Nat.shiftRight_eq_div_pow]

/-- A shift left by fewer than 32 places. -/
theorem toNat_shli (x : BitVec 32) (y : BitVec 32) (h : y.toNat < 32) :
    (IntOp.shli .host x y).toNat = x.toNat * 2 ^ y.toNat % 4294967296 := by
  unfold IntOp.shli
  rw [if_pos h, BitVec.shiftLeft_eq', BitVec.toNat_shiftLeft, Nat.shiftLeft_eq]

/-- Addition of words wraps at `2^32`. -/
theorem toNat_add (x y : BitVec 32) : (IntOp.addi x y).toNat = (x.toNat + y.toNat) % 4294967296 := BitVec.toNat_add x y

/-- Multiplication of words wraps at `2^32`. -/
theorem toNat_mul (x y : BitVec 32) : (IntOp.muli x y).toNat = x.toNat * y.toNat % 4294967296 := BitVec.toNat_mul x y

/-- The bits of the nudged product from bit 31 up, for a first factor up to `2^31` and a second below it. -/
theorem toNat_top (x y n : BitVec 32) (hx : x.toNat ≤ 2147483648) (hy : y.toNat < 2147483648) (hn : n.toNat ≤ 1073741824) :
    (top x y n).toNat = (x.toNat * y.toNat + n.toNat) / 2147483648 := by
  have exl := toNat_and x
  have eyl := toNat_and y
  have exh : (IntOp.shrui .host x 16#32).toNat = x.toNat / 65536 := toNat_shrui x 16#32 (by decide)
  have eyh : (IntOp.shrui .host y 16#32).toNat = y.toNat / 65536 := toNat_shrui y 16#32 (by decide)
  have ex : x.toNat = (IntOp.shrui .host x 16#32).toNat * 65536 + (IntOp.andi x 65535#32).toNat := by omega
  have ey : y.toNat = (IntOp.shrui .host y 16#32).toNat * 65536 + (IntOp.andi y 65535#32).toNat := by omega
  have bxl : (IntOp.andi x 65535#32).toNat ≤ 65535 := by omega
  have byl : (IntOp.andi y 65535#32).toNat ≤ 65535 := by omega
  have bxh : (IntOp.shrui .host x 16#32).toNat ≤ 32768 := by omega
  have byh : (IntOp.shrui .host y 16#32).toNat ≤ 32767 := by omega
  have elo2 : (lo2 x y n).toNat = ((lo x y).toNat + n.toNat) % 4294967296 := toNat_add _ _
  have elo : (lo x y).toNat = ((ll x y).toNat + (IntOp.shli .host (mid x y) 16#32).toNat) % 4294967296 := toNat_add _ _
  have esh : (IntOp.shli .host (mid x y) 16#32).toNat = (mid x y).toNat * 65536 % 4294967296 := toNat_shli _ 16#32 (by decide)
  have emh : (IntOp.shrui .host (mid x y) 16#32).toNat = (mid x y).toNat / 65536 := toNat_shrui _ 16#32 (by decide)
  have ell : (ll x y).toNat = (IntOp.andi x 65535#32).toNat * (IntOp.andi y 65535#32).toNat % 4294967296 := toNat_mul _ _
  have emid : (mid x y).toNat = ((IntOp.shrui .host x 16#32).toNat * (IntOp.andi y 65535#32).toNat % 4294967296
      + (IntOp.andi x 65535#32).toNat * (IntOp.shrui .host y 16#32).toNat % 4294967296) % 4294967296 := by
    unfold mid; rw [toNat_add, toNat_mul, toNat_mul]
  have ehh : (IntOp.muli (IntOp.shrui .host x 16#32) (IntOp.shrui .host y 16#32)).toNat
      = (IntOp.shrui .host x 16#32).toNat * (IntOp.shrui .host y 16#32).toNat % 4294967296 := toNat_mul _ _
  have c1 : (flag (IntOp.cmpi .ult (lo x y) (ll x y))).toNat = if (lo x y).toNat < (ll x y).toNat then 1 else 0 := by
    unfold IntOp.cmpi; rw [toNat_flag]; simp [BitVec.ult]
  have c2 : (flag (IntOp.cmpi .ult (lo2 x y n) (lo x y))).toNat = if (lo2 x y n).toNat < (lo x y).toNat then 1 else 0 := by
    unfold IntOp.cmpi; rw [toNat_flag]; simp [BitVec.ult]
  have ehi : (hi x y).toNat = (((IntOp.muli (IntOp.shrui .host x 16#32) (IntOp.shrui .host y 16#32)).toNat
      + (IntOp.shrui .host (mid x y) 16#32).toNat) % 4294967296
      + (flag (IntOp.cmpi .ult (lo x y) (ll x y))).toNat) % 4294967296 := by
    unfold hi; rw [toNat_add, toNat_add]
  have etop : (top x y n).toNat = (IntOp.shli .host (IntOp.addi (hi x y) (flag (IntOp.cmpi .ult (lo2 x y n) (lo x y)))) 1#32).toNat
      ||| (IntOp.shrui .host (lo2 x y n) 31#32).toNat := by
    unfold top IntOp.ori; rw [BitVec.toNat_or]
  have es31 : (IntOp.shrui .host (lo2 x y n) 31#32).toNat = (lo2 x y n).toNat / 2147483648 := toNat_shrui _ 31#32 (by decide)
  have es1 : (IntOp.shli .host (IntOp.addi (hi x y) (flag (IntOp.cmpi .ult (lo2 x y n) (lo x y)))) 1#32).toNat
      = (IntOp.addi (hi x y) (flag (IntOp.cmpi .ult (lo2 x y n) (lo x y)))).toNat * 2 % 4294967296 := toNat_shli _ 1#32 (by decide)
  have eor : ∀ p q : ℕ, q ≤ 1 → (p * 2 % 4294967296) ||| q = p * 2 % 4294967296 + q := by
    intro p q hq
    have h2 : p * 2 % 4294967296 = 2 ^ 1 * (p % 2147483648) := by omega
    rw [h2, Nat.two_pow_add_eq_or_of_lt (by omega : q < 2 ^ 1)]
  rw [etop, es1, eor _ _ (by rw [es31]; have := (lo2 x y n).isLt; omega), es31, toNat_add]
  have key : x.toNat * y.toNat = ((IntOp.shrui .host x 16#32).toNat * (IntOp.shrui .host y 16#32).toNat) * 4294967296
      + ((IntOp.shrui .host x 16#32).toNat * (IntOp.andi y 65535#32).toNat
        + (IntOp.andi x 65535#32).toNat * (IntOp.shrui .host y 16#32).toNat) * 65536
      + (IntOp.andi x 65535#32).toNat * (IntOp.andi y 65535#32).toNat := by
    conv_lhs => rw [ex, ey]
    ring
  rw [key]
  have p1 := Nat.mul_le_mul bxl byl
  have p2 := Nat.mul_le_mul bxh byl
  have p3 := Nat.mul_le_mul bxl byh
  have p4 := Nat.mul_le_mul bxh byh
  norm_num at p1 p2 p3 p4
  generalize (IntOp.shrui .host x 16#32).toNat * (IntOp.andi y 65535#32).toNat = m1 at *
  generalize (IntOp.andi x 65535#32).toNat * (IntOp.shrui .host y 16#32).toNat = m2 at *
  generalize (IntOp.andi x 65535#32).toNat * (IntOp.andi y 65535#32).toNat = m0 at *
  generalize (IntOp.shrui .host x 16#32).toNat * (IntOp.shrui .host y 16#32).toNat = m3 at *
  rw [ehi, c2, c1, ehh, emh]
  clear etop es1 eor key ehi c1 c2 ehh ex ey exl eyl exh eyh bxl byl bxh byh es31 emh
  have hm : (mid x y).toNat = m1 + m2 := by omega
  have hl : (ll x y).toNat = m0 := by omega
  rw [hm] at *
  rw [hl] at *
  generalize (lo2 x y n).toNat = L2 at *
  generalize (lo x y).toNat = L at *
  generalize (IntOp.shli .host (mid x y) 16#32).toNat = S at *
  generalize n.toNat = N at *
  have hL : L + (if L < m0 then 1 else 0) * 4294967296 = m0 + S := by split_ifs <;> omega
  have hL2 : L2 + (if L2 < L then 1 else 0) * 4294967296 = L + N := by split_ifs <;> omega
  have b1 : (if L < m0 then 1 else 0) ≤ 1 := by split_ifs <;> omega
  have b2 : (if L2 < L then 1 else 0) ≤ 1 := by split_ifs <;> omega
  generalize (if L < m0 then 1 else 0) = C1 at *
  generalize (if L2 < L then 1 else 0) = C2 at *
  omega

/-- The reference's doubling high multiplication is the floor of `(a * m + 2^30) / 2^31`, for any accumulator
    and a multiplier that is not negative. -/
theorem toInt_mulHigh (a m : BitVec 32) (hm : 0 ≤ m.toInt) :
    (mulHigh a m).toInt = (a.toInt * m.toInt + 1073741824) / 2147483648 := by
  have har := toInt_range a
  have hmr := toInt_range m
  have em : m.toInt = m.toNat := by rcases toInt_cases m with ⟨_, e⟩ | ⟨_, e⟩ <;> omega
  have hc : IntOp.cmpi .slt a 0#32 = BitVec.ofBool (decide (a.toInt < 0)) := by
    unfold IntOp.cmpi; simp [BitVec.slt]
  have eabs : ((IntOp.absi a).toNat : ℤ) = if a.toInt < 0 then -a.toInt else a.toInt := by
    unfold IntOp.absi
    have hmsb := BitVec.msb_eq_decide a
    rcases toInt_cases a with ⟨h, e⟩ | ⟨h, e⟩
    · have : a.msb = false := by rw [hmsb]; simp; omega
      rw [this]; simp; omega
    · have : a.msb = true := by rw [hmsb]; simp; omega
      rw [this, if_pos rfl, BitVec.toNat_neg]
      have := a.isLt
      split_ifs <;> omega
  unfold mulHigh
  rw [hc]
  by_cases hneg : a.toInt < 0
  · rw [if_pos hneg] at eabs
    simp only [hneg, decide_true]
    have en : (IntOp.subi 1073741824#32 (flag (BitVec.ofBool true))).toNat = 1073741823 := by decide
    have et := toNat_top (IntOp.absi a) m (IntOp.subi 1073741824#32 (flag (BitVec.ofBool true))) (by omega) (by omega) (by omega)
    rw [en] at et
    have hb : (IntOp.absi a).toNat * m.toNat ≤ 2147483648 * 2147483647 := Nat.mul_le_mul (by omega) (by omega)
    have hk : a.toInt * m.toInt = -(((IntOp.absi a).toNat * m.toNat : ℕ) : ℤ) := by push_cast; rw [eabs, em]; ring
    generalize (IntOp.absi a).toNat * m.toNat = P at *
    generalize top (IntOp.absi a) m (IntOp.subi 1073741824#32 (flag (BitVec.ofBool true))) = T at *
    unfold Scalar.select
    rw [if_pos (by decide), hk, BitVec.toInt_neg]
    have eT : T.toInt = T.toNat := by rcases toInt_cases T with ⟨_, e⟩ | ⟨_, e⟩ <;> omega
    rw [eT, bmod_self _ (by omega) (by omega)]
    omega
  · rw [if_neg hneg] at eabs
    simp only [hneg, decide_false]
    have en : (IntOp.subi 1073741824#32 (flag (BitVec.ofBool false))).toNat = 1073741824 := by decide
    have et := toNat_top (IntOp.absi a) m (IntOp.subi 1073741824#32 (flag (BitVec.ofBool false))) (by omega) (by omega) (by omega)
    rw [en] at et
    have hb : (IntOp.absi a).toNat * m.toNat ≤ 2147483648 * 2147483647 := Nat.mul_le_mul (by omega) (by omega)
    have hk : a.toInt * m.toInt = (((IntOp.absi a).toNat * m.toNat : ℕ) : ℤ) := by push_cast; rw [eabs, em]
    generalize (IntOp.absi a).toNat * m.toNat = P at *
    generalize top (IntOp.absi a) m (IntOp.subi 1073741824#32 (flag (BitVec.ofBool false))) = T at *
    unfold Scalar.select
    rw [if_neg (by decide), hk]
    have eT : T.toInt = T.toNat := by rcases toInt_cases T with ⟨_, e⟩ | ⟨_, e⟩ <;> omega
    rw [eT]
    omega

/-- The reference's rounding shift, as an integer: the floor of `h / 2^s`, and one more when the bits shifted out exceed
    half of `2^s` less one, or half of `2^s` for a negative `h`. -/
theorem toInt_round (h s : BitVec 32) (h1 : -2147483647 ≤ h.toInt) (h2 : h.toInt ≤ 2147483646) (s1 : 1 ≤ s.toInt) (s2 : s.toInt ≤ 31) :
    (round h s).toInt = h.toInt / (2 * 2 ^ (s.toNat - 1))
      + if h.toInt % (2 * 2 ^ (s.toNat - 1)) > 2 ^ (s.toNat - 1) - 1 + (if h.toInt < 0 then 1 else 0) then 1 else 0 := by
  have hs : s.toInt = s.toNat := by rcases toInt_cases s with ⟨_, e⟩ | ⟨_, e⟩ <;> omega
  obtain ⟨k, hk⟩ : ∃ k, s.toNat = k + 1 := ⟨s.toNat - 1, by omega⟩
  have hk30 : k ≤ 30 := by omega
  have hp1 : 1 ≤ 2 ^ k := Nat.one_le_two_pow
  have hp2 : 2 ^ k ≤ 2 ^ 30 := Nat.pow_le_pow_right (by norm_num) hk30
  norm_num at hp2
  have hdvd : 2 * 2 ^ k * 2 ^ (31 - k) = 4294967296 := by
    rw [show 2 * 2 ^ k * 2 ^ (31 - k) = 2 ^ (1 + k + (31 - k)) by rw [pow_add, pow_add]; norm_num,
      show 1 + k + (31 - k) = 32 by omega]
    norm_num
  have emask : (mask s).toNat = 2 * 2 ^ k - 1 := by
    have e1 : (IntOp.shli .host 1#32 s).toNat = 2 * 2 ^ k := by
      rw [toNat_shli _ _ (by omega), hk, pow_succ]
      norm_num
      omega
    unfold mask IntOp.subi
    rw [BitVec.toNat_sub, e1]
    norm_num
    omega
  have emaskI : (mask s).toInt = 2 * 2 ^ k - 1 := by
    have : (mask s).toInt = (mask s).toNat := by rcases toInt_cases (mask s) with ⟨_, e⟩ | ⟨_, e⟩ <;> omega
    rw [this, emask, Nat.cast_sub (by omega)]; push_cast; ring
  have erem : (IntOp.andi h (mask s)).toNat = h.toNat % (2 * 2 ^ k) := by
    unfold IntOp.andi
    rw [BitVec.toNat_and, emask, show 2 * 2 ^ k = 2 ^ (k + 1) by rw [pow_succ]; ring]
    exact Nat.and_two_pow_sub_one_eq_mod h.toNat (k + 1)
  have erem2 : (IntOp.andi h (mask s)).toInt = h.toInt % (2 * 2 ^ k) := by
    have hlt : h.toNat % (2 * 2 ^ k) < 2 * 2 ^ k := Nat.mod_lt _ (by omega)
    have e1 : (IntOp.andi h (mask s)).toInt = (IntOp.andi h (mask s)).toNat := by
      rcases toInt_cases (IntOp.andi h (mask s)) with ⟨_, e⟩ | ⟨_, e⟩ <;> omega
    rw [e1, erem]
    rcases toInt_cases h with ⟨_, e⟩ | ⟨_, e⟩
    · rw [e]; push_cast; rfl
    · rw [e, show ((h.toNat : ℤ) - 4294967296) = h.toNat - (2 * 2 ^ k) * 2 ^ (31 - k) by
        rw [show ((2 : ℤ) * 2 ^ k) * 2 ^ (31 - k) = 4294967296 by exact_mod_cast hdvd]]
      rw [Int.sub_mul_emod_self_left]; push_cast; rfl
  have hpI1 : (1 : ℤ) ≤ 2 ^ k := by exact_mod_cast hp1
  have hpI2 : (2 : ℤ) ^ k ≤ 1073741824 := by exact_mod_cast hp2
  have hks : s.toNat - 1 = k := by omega
  rw [hks]
  have esh : (IntOp.shrsi .host h s).toInt = h.toInt / (2 * 2 ^ k) := by
    rw [toInt_shrsi _ _ _ (by omega), hk, pow_succ, mul_comm]
  have bq := div_bound h.toInt (2 * 2 ^ k) 2147483647 2147483646 (by norm_num) (by norm_num) (by omega) h1 h2
  have ehalf : (IntOp.shrsi .host (mask s) 1#32).toInt = 2 ^ k - 1 := by
    rw [toInt_shrsi _ _ _ (by decide), emaskI]; norm_num; omega
  have f1 : IntOp.cmpi .slt h 0#32 = BitVec.ofBool (decide (h.toInt < 0)) := by
    unfold IntOp.cmpi; simp [BitVec.slt]
  have ef1 : (flag (IntOp.cmpi .slt h 0#32)).toInt = if h.toInt < 0 then 1 else 0 := by
    rw [f1, toInt_flag]; simp
  have bf1 : 0 ≤ (if h.toInt < 0 then (1 : ℤ) else 0) ∧ (if h.toInt < 0 then (1 : ℤ) else 0) ≤ 1 := by split_ifs <;> omega
  have ethr := toInt_add (IntOp.shrsi .host (mask s) 1#32) (flag (IntOp.cmpi .slt h 0#32)) (by rw [ehalf, ef1]; omega)
    (by rw [ehalf, ef1]; omega)
  rw [ehalf, ef1] at ethr
  have ef2 : (flag (IntOp.cmpi .sgt (IntOp.andi h (mask s))
      (IntOp.addi (IntOp.shrsi .host (mask s) 1#32) (flag (IntOp.cmpi .slt h 0#32))))).toInt
      = if h.toInt % (2 * 2 ^ k) > 2 ^ k - 1 + (if h.toInt < 0 then 1 else 0) then 1 else 0 := by
    generalize IntOp.addi (IntOp.shrsi .host (mask s) 1#32) (flag (IntOp.cmpi .slt h 0#32)) = thr at *
    unfold IntOp.cmpi
    rw [toInt_flag, ← ethr, ← erem2]
    simp [BitVec.slt]
  unfold round
  rw [toInt_add _ _ (by rw [esh, ef2]; split_ifs <;> omega) (by rw [esh, ef2]; split_ifs <;> omega), esh, ef2]

end Cert.RequantReference
-- ==== Proof.Requant.lean ====
/-
  The two requantizations agree: for any accumulator, a multiplier that is not negative and a shift from
  1 to 31, the kernel's word and the reference's word are one.
-/
module

public import proofs.«01_k».proof.Proof.RequantKernel
public import proofs.«01_k».proof.Proof.RequantReference

@[expose] public section

namespace Cert.Requant

open Idealize.ShloMosaic Cert.Words

/-- Two ways of rounding `h / (2 p)` to nearest, ties away from zero: half of the floor of `h / p` (of `(h - 1) / p` below
    zero) plus one, and the floor corrected by a comparison of the remainder. -/
theorem round_eq (h p : ℤ) (hp : 1 ≤ p) :
    ((h - (if h < 0 then 1 else 0)) / p + 1) / 2
      = h / (2 * p) + if h % (2 * p) > p - 1 + (if h < 0 then 1 else 0) then 1 else 0 := by
  have e := Int.emod_add_mul_ediv h (2 * p)
  have r0 := Int.emod_nonneg h (show (2 * p) ≠ 0 by omega)
  have r1 := Int.emod_lt_of_pos h (show 0 < 2 * p by omega)
  generalize h % (2 * p) = r at *
  generalize h / (2 * p) = q at *
  have step : ∀ d : ℤ, (h - d) / p = 2 * q + (r - d) / p := by
    intro d
    rw [show h - d = (r - d) + p * (2 * q) by rw [← e]; ring, Int.add_mul_ediv_left _ _ (by omega)]
    ring
  rw [step]
  have small : ∀ x : ℤ, 0 ≤ x → x < p → x / p = 0 := fun x a b => Int.ediv_eq_zero_of_lt a b
  have mid : ∀ x : ℤ, p ≤ x → x < 2 * p → x / p = 1 := by
    intro x a b
    have := small (x - p) (by omega) (by omega)
    rw [show x = (x - p) + p * 1 by ring, Int.add_mul_ediv_left _ _ (by omega), this]; rfl
  have below : (-1 : ℤ) / p = -1 := by
    rw [Int.ediv_eq_iff_of_pos (by omega)]
    constructor <;> omega
  by_cases hneg : h < 0
  · rw [if_pos hneg]
    by_cases hz : r = 0
    · subst hz
      rw [show (0 : ℤ) - 1 = -1 by ring, below, if_neg (by omega)]; omega
    · by_cases hr : r ≤ p
      · rw [small (r - 1) (by omega) (by omega), if_neg (by omega)]; omega
      · rw [mid (r - 1) (by omega) (by omega), if_pos (by omega)]; omega
  · rw [if_neg hneg]
    by_cases hr : r < p
    · rw [small (r - 0) (by omega) (by omega), if_neg (by omega)]; omega
    · rw [mid (r - 0) (by omega) (by omega), if_pos (by omega)]; omega

/-- The kernel's and the reference's requantized words, before the output offset, are one word. -/
theorem word_eq (a m s : BitVec 32) (hm : 0 ≤ m.toInt)
    (s1 : 1 ≤ s.toInt) (s2 : s.toInt ≤ 31) :
    RequantKernel.round (RequantKernel.mulHigh a m) s = RequantReference.round (RequantReference.mulHigh a m) s := by
  have hmr := toInt_range m
  have eh : RequantKernel.mulHigh a m = RequantReference.mulHigh a m :=
    BitVec.eq_of_toInt_eq ((RequantKernel.toInt_mulHigh a m hm).trans (RequantReference.toInt_mulHigh a m hm).symm)
  have hv := RequantKernel.toInt_mulHigh a m hm
  have har := toInt_range a
  have hb := high_range a.toInt m.toInt har.1 har.2 hm hmr.2
  rw [← eh]
  generalize RequantKernel.mulHigh a m = h at *
  generalize a.toInt * m.toInt = P at *
  have b1 : -2147483647 ≤ h.toInt := by omega
  have b2 : h.toInt ≤ 2147483646 := by omega
  apply BitVec.eq_of_toInt_eq
  rw [RequantKernel.toInt_round h s b1 b2 s1 s2, RequantReference.toInt_round h s b1 b2 s1 s2]
  exact round_eq h.toInt _ (one_le_pow₀ (by norm_num))

end Cert.Requant
-- ==== Proof.Ref.lean ====
/- The reference read at one element: its accumulator word is the product sum modulo 2^32 plus the bias, and the result is
   the reference's requantization of that word. -/
module

public import proofs.«01_k».proof.Proof.Stages
public import proofs.«01_k».proof.Proof.RequantReference
public import Idealize.ShloMosaic.PureOps.Reduce
public import Idealize.ShloMosaic.Lib.Pipeline.ValueKit

@[expose] public section

noncomputable section

namespace Cert.ReferenceIdeal.Element

open Cert.ReferenceIdeal Cert.ReferenceIdeal.Gen Cert.ReferenceIdeal.Stages Idealize.ShloMosaic

variable {F : FTy → Type} [FloatOps F]

/-- Adding up words that are integers modulo 2^32 gives the integer sum modulo 2^32. -/
theorem fold_words {n : ℕ} (f : Fin n → ℤ) (S : Finset (Fin n)) :
    S.fold IntOp.addi 0#32 (fun k => BitVec.ofInt 32 (f k)) = BitVec.ofInt 32 (∑ k ∈ S, f k) := by
  classical
  induction S using Finset.induction_on with
  | empty => simp
  | insert a S ha ih =>
    rw [Finset.fold_insert ha, Finset.sum_insert ha, ih, BitVec.ofInt_add]
    rfl

/-- The three-axis index at `a`, `b`, `n`. -/
abbrev at3 (a : Fin 2) (b : Fin 128) (n : Fin 18432) : S2x128x18432.Idx := Idealize.ShloMosaic.ix3 a b n

theorem red7 : S2x128x7168x18432.Reduces [2] S2x128x18432 := by decide
theorem red9 : S7168x18432.Reduces [0] S18432 := by decide

/-- The product of the inputs and the weights. -/
theorem prod_at (x0 : (⟨S2x128x7168, .i8⟩ : BufTy).Contents (Elt F)) (x2 : (⟨S7168x18432, .i8⟩ : BufTy).Contents (Elt F))
    (a : Fin 2) (b : Fin 128) (n : Fin 18432) :
    val_main_v7 (F := F) x0 x2 (at3 a b n)
      = BitVec.ofInt 32 (∑ k : Fin 7168, (x0 (Idealize.ShloMosaic.ix3 a b k) : BitVec 8).toInt * (x2 (Idealize.ShloMosaic.ix2 k n) : BitVec 8).toInt) := by
  unfold val_main_v7
  rw [Host.reduce_eq_fold_single _ _ _ _ red7]
  rw [show val_main_c (F := F) (Shape.Idx.first h_S_) = 0#32 from rfl, ← fold_words (n := 7168)]
  refine congrArg (Finset.fold IntOp.addi 0#32 · (Finset.univ : Finset (Fin 7168))) (funext fun k => ?_)
  rw [BitVec.ofInt_mul]
  show val_main_v6 x0 x2 (red7.lift (at3 a b n) k) = _
  rw [val_main_v6_apply, val_main_v4_apply, val_main_v5_apply, val_main_v1_apply, val_main_v3_apply, val_main_v0_apply, val_main_v2_apply]
  have e1 : idx_main_v1 (idx_main_v4 (red7.lift (at3 a b n) k)) = Idealize.ShloMosaic.ix3 a b k := by
    funext d
    match d with
    | ⟨0, _⟩ => rfl
    | ⟨1, _⟩ => rfl
    | ⟨2, _⟩ => rfl
  have e2 : idx_main_v3 (idx_main_v5 (red7.lift (at3 a b n) k)) = Idealize.ShloMosaic.ix2 k n := by
    funext d
    match d with
    | ⟨0, _⟩ => rfl
    | ⟨1, _⟩ => rfl
  rw [e1, e2]
  rfl

/-- The column sums of the weights. -/
theorem wsum_at (x2 : (⟨S7168x18432, .i8⟩ : BufTy).Contents (Elt F)) (n : Fin 18432) :
    val_main_v9 (F := F) x2 (Idealize.ShloMosaic.ix1 n)
      = BitVec.ofInt 32 (∑ k : Fin 7168, (x2 (Idealize.ShloMosaic.ix2 k n) : BitVec 8).toInt) := by
  unfold val_main_v9
  rw [Host.reduce_eq_fold_single _ _ _ _ red9]
  rw [show val_main_c_0 (F := F) (Shape.Idx.first h_S_) = 0#32 from rfl, ← fold_words (n := 7168)]
  refine congrArg (Finset.fold IntOp.addi 0#32 · (Finset.univ : Finset (Fin 7168))) (funext fun k => ?_)
  show val_main_v8 x2 (red9.lift (Idealize.ShloMosaic.ix1 n) k) = _
  rw [val_main_v8_apply]
  have e2 : red9.lift (Idealize.ShloMosaic.ix1 n) k = Idealize.ShloMosaic.ix2 k n := by
    funext d
    match d with
    | ⟨0, _⟩ => rfl
    | ⟨1, _⟩ => rfl
  rw [e2]
  rfl

variable (x0 : (⟨S2x128x7168, .i8⟩ : BufTy).Contents (Elt F)) (x1 : (⟨S_, .i32⟩ : BufTy).Contents (Elt F))
  (x2 : (⟨S7168x18432, .i8⟩ : BufTy).Contents (Elt F)) (x3 x4 x5 : (⟨S18432, .i32⟩ : BufTy).Contents (Elt F))
  (x6 : (⟨S_, .i32⟩ : BufTy).Contents (Elt F))

/-- The reference's accumulator word: the product sum of the inputs less their zero point, modulo 2^32, plus the bias. -/
theorem acc_at (a : Fin 2) (b : Fin 128) (n : Fin 18432) :
    val_main_v17 (F := F) x0 x1 x2 x3 (at3 a b n)
      = BitVec.ofInt 32 (∑ k : Fin 7168, ((x0 (Idealize.ShloMosaic.ix3 a b k) : BitVec 8).toInt - (x1 Idealize.ShloMosaic.ix0 : BitVec 32).toInt)
          * (x2 (Idealize.ShloMosaic.ix2 k n) : BitVec 8).toInt) + (x3 (Idealize.ShloMosaic.ix1 n) : BitVec 32) := by
  rw [val_main_v17_apply, val_main_v14_apply, val_main_v16_apply, val_main_v15_apply, val_main_v13_apply, val_main_v12_apply,
    val_main_v11_apply, val_main_v10_apply, prod_at]
  have e1 : idx_main_v12 (idx_main_v13 (at3 a b n)) = Idealize.ShloMosaic.ix1 n := by
    funext d
    match d with
    | ⟨0, _⟩ => rfl
  have e2 : idx_main_v15 (idx_main_v16 (at3 a b n)) = Idealize.ShloMosaic.ix1 n := by
    funext d
    match d with
    | ⟨0, _⟩ => rfl
  have e3 : idx_main_v10 (Idealize.ShloMosaic.ix1 n) = Idealize.ShloMosaic.ix0 := by
    funext d
    exact d.elim0
  rw [e1, e2, e3, wsum_at]
  generalize x1 Idealize.ShloMosaic.ix0 = z
  refine congrArg (· + (x3 (Idealize.ShloMosaic.ix1 n) : BitVec 32)) ?_
  show BitVec.ofInt 32 _ - (z : BitVec 32) * BitVec.ofInt 32 _ = _
  rw [← BitVec.ofInt_toInt (x := (z : BitVec 32)), ← BitVec.ofInt_mul, BitVec.sub_eq_add_neg, ← BitVec.ofInt_neg, ← BitVec.ofInt_add, BitVec.ofInt_toInt]
  refine congrArg _ ?_
  rw [Finset.mul_sum, ← sub_eq_add_neg, ← Finset.sum_sub_distrib]
  exact Finset.sum_congr rfl fun k _ => (sub_mul _ _ _).symm

/-- The reference's doubling high multiplication, at an element, of its accumulator word there. -/
theorem mulHigh_at (i : S2x128x18432.Idx) :
    val_main_v60 (F := F) x0 x1 x2 x3 x4 i
      = RequantReference.mulHigh (val_main_v17 (F := F) x0 x1 x2 x3 i) (x4 (idx_main_v22 i)) := by
  have e19 : val_main_v19 (F := F) x0 x1 x2 x3 i = IntOp.cmpi .slt (val_main_v17 (F := F) x0 x1 x2 x3 i) 0#32 := by
    rw [val_main_v19_apply, val_main_v18_apply, val_main_c_1_apply]
  have e21 : val_main_v21 (F := F) x0 x1 x2 x3 i = IntOp.absi (val_main_v17 (F := F) x0 x1 x2 x3 i) := by
    rw [val_main_v21_apply, val_main_v20_apply]
  have e23 : val_main_v23 (F := F) x4 i = x4 (idx_main_v22 i) := by rw [val_main_v23_apply, val_main_v22_apply]
  generalize val_main_v17 (F := F) x0 x1 x2 x3 i = w at *
  generalize (x4 (idx_main_v22 i) : BitVec 32) = y at *
  have e25 := val_main_v25_apply (F := F) x0 x1 x2 x3 i
  rw [e21, val_main_v24_apply, val_main_c_2_apply] at e25
  have e27 := val_main_v27_apply (F := F) x0 x1 x2 x3 i
  rw [e21, val_main_v26_apply, val_main_c_3_apply] at e27
  have e29 := val_main_v29_apply (F := F) x4 i
  rw [e23, val_main_v28_apply, val_main_c_4_apply] at e29
  have e31 := val_main_v31_apply (F := F) x4 i
  rw [e23, val_main_v30_apply, val_main_c_5_apply] at e31
  have e32 : val_main_v32 (F := F) x0 x1 x2 x3 x4 i = RequantReference.ll (IntOp.absi w) y := by
    rw [val_main_v32_apply, e27, e31]; rfl
  have e35 : val_main_v35 (F := F) x0 x1 x2 x3 x4 i = RequantReference.mid (IntOp.absi w) y := by
    rw [val_main_v35_apply, val_main_v33_apply, val_main_v34_apply, e25, e27, e29, e31]; rfl
  have e39 : val_main_v39 (F := F) x0 x1 x2 x3 x4 i = RequantReference.lo (IntOp.absi w) y := by
    rw [val_main_v39_apply, val_main_v38_apply, e32, e35, val_main_v37_apply, val_main_c_6_apply]; rfl
  have e45 : val_main_v45 (F := F) x0 x1 x2 x3 x4 i = RequantReference.hi (IntOp.absi w) y := by
    rw [val_main_v45_apply, val_main_v44_apply, val_main_v43_apply, val_main_v41_apply, val_main_v40_apply, val_main_v36_apply,
      e39, e32, e35, e25, e29, val_main_v42_apply, val_main_c_7_apply]; rfl
  have e49 : val_main_v49 (F := F) x0 x1 x2 x3 x4 i = RequantReference.lo2 (IntOp.absi w) y
      (IntOp.subi 1073741824#32 (RequantReference.flag (IntOp.cmpi .slt w 0#32))) := by
    rw [val_main_v49_apply, val_main_v48_apply, val_main_v46_apply, e39, e19, val_main_v47_apply, val_main_c_8_apply]; rfl
  have e58 : val_main_v58 (F := F) x0 x1 x2 x3 x4 i = RequantReference.top (IntOp.absi w) y
      (IntOp.subi 1073741824#32 (RequantReference.flag (IntOp.cmpi .slt w 0#32))) := by
    rw [val_main_v58_apply, val_main_v57_apply, val_main_v56_apply, val_main_v54_apply, val_main_v52_apply, val_main_v51_apply,
      val_main_v50_apply, e49, e45, e39, val_main_v53_apply, val_main_c_9_apply, val_main_v55_apply, val_main_c_10_apply]; rfl
  rw [val_main_v60_apply, val_main_v59_apply, e58, e19]
  rfl

/-- The reference's result at an element: its accumulator word there requantized, offset, clamped to eight bits. -/
theorem result_at (a : Fin 2) (b : Fin 128) (n : Fin 18432) :
    val_main_v84 (F := F) x0 x1 x2 x3 x4 x5 x6 (at3 a b n)
      = (IntOp.minsi 127#32 (IntOp.maxsi 4294967168#32 (IntOp.addi
          (RequantReference.round (RequantReference.mulHigh (val_main_v17 (F := F) x0 x1 x2 x3 (at3 a b n)) (x4 (Idealize.ShloMosaic.ix1 n)))
            (x5 (Idealize.ShloMosaic.ix1 n))) (x6 Idealize.ShloMosaic.ix0)))).setWidth 8 := by
  have e60 := mulHigh_at (F := F) x0 x1 x2 x3 x4 (at3 a b n)
  have i22 : idx_main_v22 (at3 a b n) = Idealize.ShloMosaic.ix1 n := by
    funext d
    match d with
    | ⟨0, _⟩ => rfl
  have i66 : idx_main_v65 (idx_main_v66 (at3 a b n)) = Idealize.ShloMosaic.ix1 n := by
    funext d
    match d with
    | ⟨0, _⟩ => rfl
  have i74 : idx_main_v73 (idx_main_v74 (at3 a b n)) = Idealize.ShloMosaic.ix1 n := by
    funext d
    match d with
    | ⟨0, _⟩ => rfl
  have i76 : idx_main_v76 (at3 a b n) = Idealize.ShloMosaic.ix1 n := by
    funext d
    match d with
    | ⟨0, _⟩ => rfl
  have i81 : idx_main_v81 (at3 a b n) = Idealize.ShloMosaic.ix0 := by
    funext d
    exact d.elim0
  rw [i22] at e60
  have e64 : val_main_v64 (F := F) x5 (Idealize.ShloMosaic.ix1 n) = RequantReference.mask (x5 (Idealize.ShloMosaic.ix1 n)) := by
    rw [val_main_v64_apply, val_main_v62_apply, val_main_v61_apply, val_main_c_11_apply, val_main_v63_apply, val_main_c_12_apply]; rfl
  have e75 : val_main_v75 (F := F) x0 x1 x2 x3 x4 x5 (at3 a b n)
      = IntOp.addi (IntOp.shrsi .host (RequantReference.mask (x5 (Idealize.ShloMosaic.ix1 n))) 1#32)
          (RequantReference.flag (IntOp.cmpi .slt (val_main_v60 (F := F) x0 x1 x2 x3 x4 (at3 a b n)) 0#32)) := by
    rw [val_main_v75_apply, val_main_v74_apply, val_main_v73_apply, i74, val_main_v69_apply, e64, val_main_v68_apply, val_main_c_13_apply,
      val_main_v72_apply, val_main_v71_apply, val_main_v70_apply, val_main_c_14_apply]; rfl
  have e67 : val_main_v67 (F := F) x0 x1 x2 x3 x4 x5 (at3 a b n)
      = IntOp.andi (val_main_v60 (F := F) x0 x1 x2 x3 x4 (at3 a b n)) (RequantReference.mask (x5 (Idealize.ShloMosaic.ix1 n))) := by
    rw [val_main_v67_apply, val_main_v66_apply, val_main_v65_apply, i66, e64]
  have e80 : val_main_v80 (F := F) x0 x1 x2 x3 x4 x5 (at3 a b n)
      = RequantReference.round (val_main_v60 (F := F) x0 x1 x2 x3 x4 (at3 a b n)) (x5 (Idealize.ShloMosaic.ix1 n)) := by
    rw [val_main_v80_apply, val_main_v79_apply, val_main_v78_apply, val_main_v77_apply, e67, e75, val_main_v76_apply, i76]; rfl
  rw [val_main_v84_apply, val_main_v83_apply, val_main_call1_v4_apply, val_main_call1_v3_apply, val_main_c_16_apply, val_main_call1_v2_apply,
    val_main_call1_v1_apply, val_main_call1_v0_apply, val_main_c_15_apply, val_main_v82_apply, val_main_v81_apply, i81, e80, e60]

end Cert.ReferenceIdeal.Element

end
-- ==== Proof.Range.lean ====
/- What the precondition says of the arguments, entry by entry. -/
module

public import proofs.«01_k».proof.Pre_in_range
public import proofs.«01_k».proof.Proof.Gen.Pre_in_range
public import Idealize.ShloMosaic.Lib.Pipeline.ValueKit

@[expose] public section

noncomputable section

namespace Cert.Pre_in_range.Decode

open Cert.Pre_in_range Idealize.ShloMosaic

/-- Two truth values whose conjunction is true are both true. -/
theorem andi_one {a b : BitVec 1} (h : IntOp.andi a b = 1#1) : a = 1#1 ∧ b = 1#1 := by
  revert a b; decide

/-- A signed comparison that holds, as integers. -/
theorem sge_one {x y : BitVec 32} (h : IntOp.cmpi .sge x y = 1#1) : y.toInt ≤ x.toInt := by
  have h' : BitVec.ofBool (y.sle x) = 1#1 := h
  cases e : y.sle x with
  | false => rw [e] at h'; exact absurd h' (by decide)
  | true => simpa [BitVec.sle] using e

/-- A signed comparison that holds, as integers. -/
theorem sle_one {x y : BitVec 32} (h : IntOp.cmpi .sle x y = 1#1) : x.toInt ≤ y.toInt := by
  have h' : BitVec.ofBool (x.sle y) = 1#1 := h
  cases e : x.sle y with
  | false => rw [e] at h'; exact absurd h' (by decide)
  | true => simpa [BitVec.sle] using e

variable {F : FTy → Type} [FloatOps F]
variable (x0 : IVec S2x128x7168 8) (x1 : IVec S_ 32) (x2 : IVec S7168x18432 8) (x3 x4 x5 : IVec S18432 32) (x6 : IVec S_ 32)

/-- The input zero point lies between the bounds stated. -/
theorem zero_point (h : (fn (F := F) x0 x1 x2 x3 x4 x5 x6).1 = fun _ => 1#1) (i : S_.Idx) :
    -32641 ≤ (x1 i).toInt ∧ (x1 i).toInt ≤ 32639 := by
  have e : IntOp.andi (IntOp.cmpi .sge (x1 i) 4294934655#32) (IntOp.cmpi .sle (x1 i) 32639#32) = 1#1 := congrFun h i
  have h1 := sge_one (andi_one e).1
  have h2 := sle_one (andi_one e).2
  rw [show (4294934655#32).toInt = -32641 from by decide] at h1
  rw [show (32639#32).toInt = 32639 from by decide] at h2
  exact ⟨h1, h2⟩

/-- The multiplier is not negative. -/
theorem multiplier (h : (fn (F := F) x0 x1 x2 x3 x4 x5 x6).2.1 = fun _ => 1#1) (i : S18432.Idx) : 0 ≤ (x4 i).toInt := by
  have e : IntOp.cmpi .sge (x4 i) 0#32 = 1#1 := congrFun h i
  have h1 := sge_one e
  rw [show (0#32).toInt = 0 from by decide] at h1
  exact h1

/-- The shift is from 1 to 31. -/
theorem shift (h : (fn (F := F) x0 x1 x2 x3 x4 x5 x6).2.2 = fun _ => 1#1) (i : S18432.Idx) :
    1 ≤ (x5 i).toInt ∧ (x5 i).toInt ≤ 31 := by
  have e : IntOp.andi (IntOp.cmpi .sge (x5 i) 1#32) (IntOp.cmpi .sle (x5 i) 31#32) = 1#1 := congrFun h i
  have h1 := sge_one (andi_one e).1
  have h2 := sle_one (andi_one e).2
  rw [show (1#32).toInt = 1 from by decide] at h1
  rw [show (31#32).toInt = 31 from by decide] at h2
  exact ⟨h1, h2⟩

end Cert.Pre_in_range.Decode

end
-- ==== Proof.Equal.lean ====
/- The kernel's result and the reference's result are equal at every element, over the real numbers. -/
module

public import proofs.«01_k».proof.Defs
public import proofs.«01_k».proof.Proof.Run
public import proofs.«01_k».proof.Proof.Dot
public import proofs.«01_k».proof.Proof.Requant
public import proofs.«01_k».proof.Proof.Ref
public import proofs.«01_k».proof.Proof.Range

@[expose] public section

noncomputable section

namespace Cert.Equal

open Cert.KernelIdeal Cert.KernelIdeal.Gen Cert.KernelIdeal.Block Cert.KernelIdeal.Points Idealize.ShloMosaic Idealize.ShloMosaic.TcCoe

variable (m : (ℓ : Loc nD τ sig) → Buf (Elt Ideal) ℓ) (c : Dev nD)

/-- The seven arguments on a device. -/
abbrev x : IVec S2x128x7168 8 := m ((c : Thread nD τ).loc main_arg0)
abbrev zp : IVec S_ 32 := m ((c : Thread nD τ).loc main_arg1)
abbrev w : IVec S7168x18432 8 := m ((c : Thread nD τ).loc main_arg2)
abbrev bs : IVec S18432 32 := m ((c : Thread nD τ).loc main_arg3)
abbrev mu : IVec S18432 32 := m ((c : Thread nD τ).loc main_arg4)
abbrev sh : IVec S18432 32 := m ((c : Thread nD τ).loc main_arg5)
abbrev yz : IVec S_ 32 := m ((c : Thread nD τ).loc main_arg6)

/-- The input less its zero point, at an element. -/
abbrev centred (a : Fin 2) (b : Fin 128) (k : Fin 7168) : ℤ := (x m c (ix3 a b k)).toInt - (zp m c ix0).toInt

/-- The product sum at an element, as an integer. -/
abbrev total (a : Fin 2) (b : Fin 128) (n : Fin 18432) : ℤ := ∑ k : Fin 7168, centred m c a b k * (w m c (ix2 k n)).toInt

/-- The accumulator word at an element. -/
abbrev acc (a : Fin 2) (b : Fin 128) (n : Fin 18432) : BitVec 32 := BitVec.ofInt 32 (total m c a b n) + bs m c (ix1 n)

/-- The row of the flattened array an element of the first two axes lies in. -/
abbrev row (a : Fin 2) (b : Fin 128) : Fin 256 := ⟨a.val * 128 + b.val, by omega⟩

/-- The scratch holds the input less its zero point, exactly. -/
theorem scratch_at (a : Fin 2) (b : Fin 128) (k : Fin 7168) :
    scratch m c (ix2 (row a b) k) = (((centred m c a b k : ℤ) : ℝ) : EReal) := by
  unfold scratch
  rw [inZero]
  simp only [k0_pay2, shapeCast_self]
  have e := input m c first (row a b) k a b rfl
  show (((((iblk m c 2 first (ix2 (row a b) k) : BitVec 8).toInt : ℤ) : ℝ) : EReal)) - ((((zp m c ix0).toInt : ℤ) : ℝ) : EReal) = _
  rw [e, Int.cast_sub, EReal.coe_sub]

/-- An element of the output array, from the accumulator word. -/
theorem final_at (hz : -32641 ≤ (zp m c ix0).toInt ∧ (zp m c ix0).toInt ≤ 32639) (a : Fin 2) (b : Fin 128) (n : Fin 18432) :
    final m c (ix2 (row a b) n)
      = (IntOp.minsi 127#32 (IntOp.maxsi 4294967168#32 (IntOp.addi
          (RequantKernel.round (RequantKernel.mulHigh (acc m c a b n) (mu m c (ix1 n))) (sh m c (ix1 n))) (yz m c ix0)))).setWidth 8 := by
  have hn : n.val = (pt (ix2 (row a b) n)).val * 1024 + (⟨n.val % 1024, Nat.mod_lt _ (by decide)⟩ : Fin 1024).val := by
    show n.val = n.val / 1024 * 1024 + n.val % 1024
    omega
  generalize hj : (⟨n.val % 1024, Nat.mod_lt _ (by decide)⟩ : Fin 1024) = j at hn
  have hp : place (ix2 (row a b) n) = ix2 (row a b) j := by rw [← hj]; rfl
  unfold final
  rw [hp]
  generalize pt (ix2 (row a b) n) = t at hn
  have hA : ∀ k, -32767 ≤ centred m c a b k ∧ centred m c a b k ≤ 32768 := fun k => by
    have h1 := BitVec.le_toInt (x m c (ix3 a b k))
    have h2 := BitVec.toInt_lt (x := x m c (ix3 a b k))
    norm_num at h1 h2
    show -32767 ≤ (x m c (ix3 a b k)).toInt - (zp m c ix0).toInt ∧ (x m c (ix3 a b k)).toInt - (zp m c ix0).toInt ≤ 32768
    omega
  have e1 := Dot.out_eq (scratch m c) (iblk m c 3 t) (iblk m c 4 t) (iblk m c 5 t) (iblk m c 6 t) (word (iblk m c 1 t)) (row a b) j
  have e2 := Dot.acc_eq (scratch m c) (iblk m c 3 t) (iblk m c 4 t) (row a b) j (centred m c a b) (fun k => scratch_at m c a b k) hA
  have e3 : ∀ k, iblk m c 3 t (ix2 k j) = w m c (ix2 k n) := fun k => weights m c t k j n hn
  have e4 : iblk m c 4 t (ix2 0 j) = bs m c (ix1 n) := bias m c t j n hn
  have e5 : iblk m c 5 t (ix2 0 j) = mu m c (ix1 n) := mults m c t j n hn
  have e6 : iblk m c 6 t (ix2 0 j) = sh m c (ix1 n) := shifts m c t j n hn
  refine e1.trans ?_
  have e7 : accBlock (scratch m c) (iblk m c 3 t) (iblk m c 4 t) (ix2 (row a b) j) = acc m c a b n := by
    refine e2.trans (congrArg₂ (· + ·) (congrArg (BitVec.ofInt 32) (Finset.sum_congr rfl fun k _ => ?_)) e4)
    exact congrArg (fun v : BitVec 8 => centred m c a b k * v.toInt) (e3 k)
  have e8 : word (iblk m c 1 t) = yz m c ix0 := outZero m c t
  exact congrArg (fun v : BitVec 32 => (IntOp.minsi 127#32 (IntOp.maxsi 4294967168#32 v)).setWidth 8)
    (congrArg₂ IntOp.addi (congrArg₂ RequantKernel.round (congrArg₂ RequantKernel.mulHigh e7 e5) e6) e8)

/-- The kernel's result is the reference's, when the arguments are in range. -/
theorem result (h : Pre_KernelIdeal_in_range m) :
    (shapeCast S2x128x18432 (final m c) shapeCasts_S256x18432_S2x128x18432 : IVec S2x128x18432 8)
      = Cert.ReferenceIdeal.Stages.val_main_v84 (F := Ideal) (x m c) (zp m c) (w m c) (bs m c) (mu m c) (sh m c) (yz m c) := by
  obtain ⟨hz, hm, hs⟩ := h c
  have hz' := Cert.Pre_in_range.Decode.zero_point _ _ _ _ _ _ _ hz ix0
  funext i
  have hi : i = Cert.ReferenceIdeal.Element.at3 ⟨(i 0).val, (i 0).isLt⟩ ⟨(i 1).val, (i 1).isLt⟩ ⟨(i 2).val, (i 2).isLt⟩ := by
    funext d
    match d with
    | ⟨0, _⟩ => rfl
    | ⟨1, _⟩ => rfl
    | ⟨2, _⟩ => rfl
  rw [hi]
  generalize (⟨(i 0).val, (i 0).isLt⟩ : Fin 2) = a
  generalize (⟨(i 1).val, (i 1).isLt⟩ : Fin 128) = b
  generalize (⟨(i 2).val, (i 2).isLt⟩ : Fin 18432) = n
  have hm' := Cert.Pre_in_range.Decode.multiplier _ _ _ _ _ _ _ hm (ix1 n)
  have hs' := Cert.Pre_in_range.Decode.shift _ _ _ _ _ _ _ hs (ix1 n)
  have hc : shapeCast S2x128x18432 (final m c) shapeCasts_S256x18432_S2x128x18432 (ix3 a b n) = final m c (ix2 (row a b) n) := by
    refine shapeCast_apply _ _ _ _ ?_
    show ((⟨2, ![256, 18432]⟩ : Shape).rowMajor (ix2 (row a b) n)).val = ((⟨3, ![2, 128, 18432]⟩ : Shape).rowMajor (ix3 a b n)).val
    rw [Shape.rowMajor_val_three, Shape.rowMajor_val_two]
    rfl
  refine hc.trans ((final_at m c hz' a b n).trans ?_)
  rw [Cert.ReferenceIdeal.Element.result_at, Cert.ReferenceIdeal.Element.acc_at]
  have hw := Requant.word_eq (acc m c a b n) (mu m c (ix1 n)) (sh m c (ix1 n)) hm' hs'.1 hs'.2
  rw [hw]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Stages
public import proofs.«01_k».proof.Proof.Gen.Pre_in_range
public import Idealize.ShloMosaic.Adequacy
public import Idealize.ShloMosaic.Init
public import Idealize.ShloMosaic.Lib.Quiescent
public import proofs.«01_k».proof.Proof.Equal

@[expose] public section

noncomputable section

namespace Cert.Proof

open Idealize.ShloMosaic Idealize.ShloMosaic.TcCoe Idealize.ShloMosaic.StableHlo Idealize.SL.Sem

variable (m' : (ℓ : Loc Cert.ReferenceIdeal.nD Cert.ReferenceIdeal.τ Cert.ReferenceIdeal.sig) → Buf (Elt Ideal) ℓ)
  (ρ' : Dev Cert.ReferenceIdeal.nD → PrngReg)

/-- Every run of the reference ends with its arguments unchanged and every semaphore counter at zero. -/
theorem reference_frame :
    θ_run (Cert.ReferenceIdeal.defs (F := Ideal)) (onTc (τ := Cert.ReferenceIdeal.τ) (Cert.ReferenceIdeal.main (F := Ideal))) ⟨m', fun _ => 0, ρ'⟩
      (fun r => (∀ c : Dev Cert.ReferenceIdeal.nD,
        r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2, sem_eq_zero_of_no_sems (by decide) r.2⟩)
    (Cert.ReferenceIdeal.Value.run m' ρ')

/-- The kernel and the reference end with equal results, over the real numbers, when the arguments are in range. -/
theorem algebraic : Cert.algebraic_KernelIdeal_ReferenceIdeal_pre_in_range := by
  intro m ρ m' ρ' hpre hargs
  refine ⟨fun c => shapeCast Cert.KernelIdeal.S2x128x18432 (Cert.KernelIdeal.Points.final m c) Cert.KernelIdeal.Gen.shapeCasts_S256x18432_S2x128x18432, ?_, ?_⟩
  · exact Cert.KernelIdeal.Points.run m ρ
  · refine (θ_run Cert.ReferenceIdeal.defs _ _).mono (fun r h c => ⟨?_, (h c).2⟩) (Cert.ReferenceIdeal.Value.run m' ρ')
    have e := Cert.ReferenceIdeal.Stages.val_main_v84_eq (F := Ideal) (launchContents m' c)
    refine ((h c).1.trans e).trans ?_
    simp only [launchContents_devRef]
    obtain ⟨h0, h1, h2, h3, h4, h5, h6⟩ := hargs c
    have hr := Cert.Equal.result m c hpre
    refine Eq.trans ?_ hr.symm
    exact congr (congr (congr (congr (congr (congr (congrArg Cert.ReferenceIdeal.Stages.val_main_v84 h0) h1) h2) h3) h4) h5) h6

/-- Everything claimed of the kernel and the reference. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, algebraic⟩

end Cert.Proof

end
